-- ==== Defs.lean ====
def Pre_Kernel (m : (ℓ : Loc Cert.Kernel.nD Cert.Kernel.τ Cert.Kernel.sig) → Buf (Elt Bits) ℓ) : Prop :=
  True

def Pre_Kernel_admissible [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_admissible [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel_admissible m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_Kernel_pre_admissible (hKernel := hKernel) (hPre_admissible := hPre_admissible)
    ∧ quiescent_KernelIdeal (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal (hKernelIdeal := hKernelIdeal) (hReferenceIdeal := hReferenceIdeal) (hPre_admissible := hPre_admissible)
-- ==== Pre_admissible.lean ====
abbrev S524288x1 : Shape := ⟨2, ![524288, 1]⟩
abbrev S64x64 : Shape := ⟨2, ![64, 64]⟩
abbrev S_ : Shape := ⟨0, ![]⟩
abbrev S1001 : Shape := ⟨1, ![1001]⟩
abbrev S1x1 : Shape := ⟨2, ![1, 1]⟩
abbrev S1 : Shape := ⟨1, ![1]⟩
abbrev S524288 : Shape := ⟨1, ![524288]⟩
abbrev S1x64 : Shape := ⟨2, ![1, 64]⟩
abbrev S524288x64 : Shape := ⟨2, ![524288, 64]⟩
abbrev S2 : Shape := ⟨1, ![2]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  slices_S64x64_S1x1_0_0 : S64x64.Slices ![0, 0] S1x1
  bcast_S1x1_S64x64_0_1 : S1x1.BroadcastsInDim S64x64 (![0, 1] : Fin 2 → Fin S64x64.rank)
  reducesTo_S64x64_S_d0_1 : S64x64.ReducesTo [0, 1] S_
  sliceFits_S1001_S1 : S1001.Slices (fun _ => 0) S1
  shapeCasts_S1_S_ : S1.ShapeCasts S_
  bcast_S_S64x64 : S_.BroadcastsInDim S64x64 (![] : Fin 0 → Fin S64x64.rank)
  shapeCasts_S524288x1_S524288 : S524288x1.ShapeCasts S524288
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S1x64_S524288x64_0_1 : S1x64.BroadcastsInDim S524288x64 (![0, 1] : Fin 2 → Fin S524288x64.rank)
  bcast_S_S1 : S_.BroadcastsInDim S1 (![] : Fin 0 → Fin S1.rank)
  concatenates_S1_S1_S2_d0 : Shape.Concatenates [S1, S1] S2 0
  slices_S2_S1_0 : S2.Slices ![0] S1
  slices_S2_S1_1 : S2.Slices ![1] S1
  bcast_S_S524288x64 : S_.BroadcastsInDim S524288x64 (![] : Fin 0 → Fin S524288x64.rank)
  natLt_32_64 : 32 < 64
  reducesTo_S524288x64_S524288_d1 : S524288x64.ReducesTo [1] S524288
  natLt_1_32 : 1 < 32
  bcast_S_S524288 : S_.BroadcastsInDim S524288 (![] : Fin 0 → Fin S524288.rank)
  reducesTo_S524288_S_d0 : S524288.ReducesTo [0] S_
  dot_S524288x64_S64x64_S524288x64_1_0_0_1_n_n_wf : DotDims.WF S524288x64 S64x64 S524288x64 [1] [0] [0] [1] [] []

variable [Facts]

def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf

noncomputable abbrev lit0t0_0 (i : Nat) : BitVec 32 := match i % 128 with
  | 0 => 0x3F7FFD4C#32
  | 1 => 0x3F7FFA47#32
  | 2 => 0x3F7FF6F0#32
  | 3 => 0x3F7FF349#32
  | 4 => 0x3F7FEF50#32
  | 5 => 0x3F7FEB05#32
  | 6 => 0x3F7FE66A#32
  | 7 => 0x3F7FE17D#32
  | 8 => 0x3F7FDC3F#32
  | 9 => 0x3F7FD6AF#32
  | 10 => 0x3F7FD0CF#32
  | 11 => 0x3F7FCA9D#32
  | 12 => 0x3F7FC41A#32
  | 13 => 0x3F7FBD46#32
  | 14 => 0x3F7FB621#32
  | 15 => 0x3F7FAEAB#32
  | 16 => 0x3F7FA6E4#32
  | 17 => 0x3F7F9ECB#32
  | 18 => 0x3F7F9662#32
  | 19 => 0x3F7F8DA7#32
  | 20 => 0x3F7F849C#32
  | 21 => 0x3F7F7B3F#32
  | 22 => 0x3F7F7191#32
  | 23 => 0x3F7F6793#32
  | 24 => 0x3F7F5D43#32
  | 25 => 0x3F7F52A3#32
  | 26 => 0x3F7F47B2#32
  | 27 => 0x3F7F3C70#32
  | 28 => 0x3F7F30DD#32
  | 29 => 0x3F7F24F9#32
  | 30 => 0x3F7F18C4#32
  | 31 => 0x3F7F0C3F#32
  | 32 => 0x3F7EFF69#32
  | 33 => 0x3F7EF243#32
  | 34 => 0x3F7EE4CC#32
  | 35 => 0x3F7ED704#32
  | 36 => 0x3F7EC8EB#32
  | 37 => 0x3F7EBA82#32
  | 38 => 0x3F7EABC9#32
  | 39 => 0x3F7E9CBF#32
  | 40 => 0x3F7E8D65#32
  | 41 => 0x3F7E7DBA#32
  | 42 => 0x3F7E6DBF#32
  | 43 => 0x3F7E5D74#32
  | 44 => 0x3F7E4CD8#32
  | 45 => 0x3F7E3BEC#32
  | 46 => 0x3F7E2AB0#32
  | 47 => 0x3F7E1924#32
  | 48 => 0x3F7E0747#32
  | 49 => 0x3F7DF51B#32
  | 50 => 0x3F7DE29F#32
  | 51 => 0x3F7DCFD2#32
  | 52 => 0x3F7DBCB6#32
  | 53 => 0x3F7DA94A#32
  | 54 => 0x3F7D958E#32
  | 55 => 0x3F7D8182#32
  | 56 => 0x3F7D6D27#32
  | 57 => 0x3F7D587C#32
  | 58 => 0x3F7D4381#32
  | 59 => 0x3F7D2E37#32
  | 60 => 0x3F7D189D#32
  | 61 => 0x3F7D02B4#32
  | 62 => 0x3F7CEC7B#32
  | 63 => 0x3F7CD5F3#32
  | 64 => 0x3F7CBF1C#32
  | 65 => 0x3F7CA7F5#32
  | 66 => 0x3F7C907F#32
  | 67 => 0x3F7C78BA#32
  | 68 => 0x3F7C60A6#32
  | 69 => 0x3F7C4843#32
  | 70 => 0x3F7C2F92#32
  | 71 => 0x3F7C1691#32
  | 72 => 0x3F7BFD41#32
  | 73 => 0x3F7BE3A3#32
  | 74 => 0x3F7BC9B6#32
  | 75 => 0x3F7BAF7A#32
  | 76 => 0x3F7B94F0#32
  | 77 => 0x3F7B7A17#32
  | 78 => 0x3F7B5EF0#32
  | 79 => 0x3F7B437A#32
  | 80 => 0x3F7B27B6#32
  | 81 => 0x3F7B0BA4#32
  | 82 => 0x3F7AEF44#32
  | 83 => 0x3F7AD296#32
  | 84 => 0x3F7AB599#32
  | 85 => 0x3F7A984F#32
  | 86 => 0x3F7A7AB7#32
  | 87 => 0x3F7A5CD1#32
  | 88 => 0x3F7A3E9D#32
  | 89 => 0x3F7A201C#32
  | 90 => 0x3F7A014D#32
  | 91 => 0x3F79E230#32
  | 92 => 0x3F79C2C6#32
  | 93 => 0x3F79A30F#32
  | 94 => 0x3F79830B#32
  | 95 => 0x3F7962B9#32
  | 96 => 0x3F79421A#32
  | 97 => 0x3F79212F#32
  | 98 => 0x3F78FFF6#32
  | 99 => 0x3F78DE70#32
  | 100 => 0x3F78BC9E#32
  | 101 => 0x3F789A7F#32
  | 102 => 0x3F787813#32
  | 103 => 0x3F78555B#32
  | 104 => 0x3F783256#32
  | 105 => 0x3F780F05#32
  | 106 => 0x3F77EB68#32
  | 107 => 0x3F77C77F#32
  | 108 => 0x3F77A349#32
  | 109 => 0x3F777EC8#32
  | 110 => 0x3F7759FA#32
  | 111 => 0x3F7734E1#32
  | 112 => 0x3F770F7C#32
  | 113 => 0x3F76E9CB#32
  | 114 => 0x3F76C3CF#32
  | 115 => 0x3F769D88#32
  | 116 => 0x3F7676F5#32
  | 117 => 0x3F765017#32
  | 118 => 0x3F7628EE#32
  | 119 => 0x3F760179#32
  | 120 => 0x3F75D9BA#32
  | 121 => 0x3F75B1B0#32
  | 122 => 0x3F75895B#32
  | 123 => 0x3F7560BB#32
  | 124 => 0x3F7537D1#32
  | 125 => 0x3F750E9C#32
  | 126 => 0x3F74E51D#32
  | 127 => 0x3F74BB54#32
  | _ => 0#32

noncomputable abbrev lit0t0_1 (i : Nat) : BitVec 32 := match i % 128 with
  | 0 => 0x3F749141#32
  | 1 => 0x3F7466E3#32
  | 2 => 0x3F743C3C#32
  | 3 => 0x3F74114B#32
  | 4 => 0x3F73E610#32
  | 5 => 0x3F73BA8C#32
  | 6 => 0x3F738EBD#32
  | 7 => 0x3F7362A6#32
  | 8 => 0x3F733645#32
  | 9 => 0x3F73099B#32
  | 10 => 0x3F72DCA8#32
  | 11 => 0x3F72AF6C#32
  | 12 => 0x3F7281E8#32
  | 13 => 0x3F72541A#32
  | 14 => 0x3F722604#32
  | 15 => 0x3F71F7A5#32
  | 16 => 0x3F71C8FE#32
  | 17 => 0x3F719A0F#32
  | 18 => 0x3F716AD7#32
  | 19 => 0x3F713B58#32
  | 20 => 0x3F710B90#32
  | 21 => 0x3F70DB81#32
  | 22 => 0x3F70AB2A#32
  | 23 => 0x3F707A8C#32
  | 24 => 0x3F7049A6#32
  | 25 => 0x3F701878#32
  | 26 => 0x3F6FE704#32
  | 27 => 0x3F6FB548#32
  | 28 => 0x3F6F8346#32
  | 29 => 0x3F6F50FC#32
  | 30 => 0x3F6F1E6C#32
  | 31 => 0x3F6EEB96#32
  | 32 => 0x3F6EB878#32
  | 33 => 0x3F6E8515#32
  | 34 => 0x3F6E516B#32
  | 35 => 0x3F6E1D7C#32
  | 36 => 0x3F6DE946#32
  | 37 => 0x3F6DB4CA#32
  | 38 => 0x3F6D8009#32
  | 39 => 0x3F6D4B03#32
  | 40 => 0x3F6D15B6#32
  | 41 => 0x3F6CE025#32
  | 42 => 0x3F6CAA4E#32
  | 43 => 0x3F6C7433#32
  | 44 => 0x3F6C3DD2#32
  | 45 => 0x3F6C072D#32
  | 46 => 0x3F6BD043#32
  | 47 => 0x3F6B9915#32
  | 48 => 0x3F6B61A2#32
  | 49 => 0x3F6B29EB#32
  | 50 => 0x3F6AF1F0#32
  | 51 => 0x3F6AB9B1#32
  | 52 => 0x3F6A812E#32
  | 53 => 0x3F6A4868#32
  | 54 => 0x3F6A0F5E#32
  | 55 => 0x3F69D611#32
  | 56 => 0x3F699C80#32
  | 57 => 0x3F6962AD#32
  | 58 => 0x3F692896#32
  | 59 => 0x3F68EE3D#32
  | 60 => 0x3F68B3A1#32
  | 61 => 0x3F6878C3#32
  | 62 => 0x3F683DA2#32
  | 63 => 0x3F68023F#32
  | 64 => 0x3F67C69A#32
  | 65 => 0x3F678AB3#32
  | 66 => 0x3F674E8A#32
  | 67 => 0x3F67121F#32
  | 68 => 0x3F66D574#32
  | 69 => 0x3F669886#32
  | 70 => 0x3F665B58#32
  | 71 => 0x3F661DE9#32
  | 72 => 0x3F65E038#32
  | 73 => 0x3F65A247#32
  | 74 => 0x3F656416#32
  | 75 => 0x3F6525A4#32
  | 76 => 0x3F64E6F2#32
  | 77 => 0x3F64A800#32
  | 78 => 0x3F6468CD#32
  | 79 => 0x3F64295B#32
  | 80 => 0x3F63E9AA#32
  | 81 => 0x3F63A9B9#32
  | 82 => 0x3F636988#32
  | 83 => 0x3F632919#32
  | 84 => 0x3F62E86A#32
  | 85 => 0x3F62A77D#32
  | 86 => 0x3F626651#32
  | 87 => 0x3F6224E7#32
  | 88 => 0x3F61E33E#32
  | 89 => 0x3F61A157#32
  | 90 => 0x3F615F32#32
  | 91 => 0x3F611CCF#32
  | 92 => 0x3F60DA2E#32
  | 93 => 0x3F609750#32
  | 94 => 0x3F605435#32
  | 95 => 0x3F6010DC#32
  | 96 => 0x3F5FCD47#32
  | 97 => 0x3F5F8974#32
  | 98 => 0x3F5F4565#32
  | 99 => 0x3F5F0119#32
  | 100 => 0x3F5EBC91#32
  | 101 => 0x3F5E77CD#32
  | 102 => 0x3F5E32CD#32
  | 103 => 0x3F5DED91#32
  | 104 => 0x3F5DA819#32
  | 105 => 0x3F5D6266#32
  | 106 => 0x3F5D1C78#32
  | 107 => 0x3F5CD64E#32
  | 108 => 0x3F5C8FE9#32
  | 109 => 0x3F5C494A#32
  | 110 => 0x3F5C0270#32
  | 111 => 0x3F5BBB5B#32
  | 112 => 0x3F5B740D#32
  | 113 => 0x3F5B2C84#32
  | 114 => 0x3F5AE4C1#32
  | 115 => 0x3F5A9CC5#32
  | 116 => 0x3F5A548F#32
  | 117 => 0x3F5A0C1F#32
  | 118 => 0x3F59C377#32
  | 119 => 0x3F597A95#32
  | 120 => 0x3F59317B#32
  | 121 => 0x3F58E828#32
  | 122 => 0x3F589E9C#32
  | 123 => 0x3F5854D8#32
  | 124 => 0x3F580ADC#32
  | 125 => 0x3F57C0A8#32
  | 126 => 0x3F57763D#32
  | 127 => 0x3F572B9A#32
  | _ => 0#32

noncomputable abbrev lit0t0_2 (i : Nat) : BitVec 32 := match i % 128 with
  | 0 => 0x3F56E0BF#32
  | 1 => 0x3F5695AD#32
  | 2 => 0x3F564A65#32
  | 3 => 0x3F55FEE5#32
  | 4 => 0x3F55B32F#32
  | 5 => 0x3F556742#32
  | 6 => 0x3F551B1F#32
  | 7 => 0x3F54CEC7#32
  | 8 => 0x3F548238#32
  | 9 => 0x3F543573#32
  | 10 => 0x3F53E879#32
  | 11 => 0x3F539B4A#32
  | 12 => 0x3F534DE6#32
  | 13 => 0x3F53004D#32
  | 14 => 0x3F52B27F#32
  | 15 => 0x3F52647C#32
  | 16 => 0x3F521645#32
  | 17 => 0x3F51C7DB#32
  | 18 => 0x3F51793C#32
  | 19 => 0x3F512A69#32
  | 20 => 0x3F50DB63#32
  | 21 => 0x3F508C29#32
  | 22 => 0x3F503CBD#32
  | 23 => 0x3F4FED1D#32
  | 24 => 0x3F4F9D4A#32
  | 25 => 0x3F4F4D45#32
  | 26 => 0x3F4EFD0E#32
  | 27 => 0x3F4EACA5#32
  | 28 => 0x3F4E5C09#32
  | 29 => 0x3F4E0B3C#32
  | 30 => 0x3F4DBA3D#32
  | 31 => 0x3F4D690D#32
  | 32 => 0x3F4D17AB#32
  | 33 => 0x3F4CC619#32
  | 34 => 0x3F4C7456#32
  | 35 => 0x3F4C2262#32
  | 36 => 0x3F4BD03E#32
  | 37 => 0x3F4B7DEA#32
  | 38 => 0x3F4B2B66#32
  | 39 => 0x3F4AD8B2#32
  | 40 => 0x3F4A85CE#32
  | 41 => 0x3F4A32BC#32
  | 42 => 0x3F49DF7A#32
  | 43 => 0x3F498C09#32
  | 44 => 0x3F493869#32
  | 45 => 0x3F48E49B#32
  | 46 => 0x3F48909F#32
  | 47 => 0x3F483C75#32
  | 48 => 0x3F47E81C#32
  | 49 => 0x3F479396#32
  | 50 => 0x3F473EE3#32
  | 51 => 0x3F46EA02#32
  | 52 => 0x3F4694F5#32
  | 53 => 0x3F463FBA#32
  | 54 => 0x3F45EA53#32
  | 55 => 0x3F4594BF#32
  | 56 => 0x3F453F00#32
  | 57 => 0x3F44E914#32
  | 58 => 0x3F4492FC#32
  | 59 => 0x3F443CB9#32
  | 60 => 0x3F43E64B#32
  | 61 => 0x3F438FB1#32
  | 62 => 0x3F4338ED#32
  | 63 => 0x3F42E1FE#32
  | 64 => 0x3F428AE4#32
  | 65 => 0x3F4233A0#32
  | 66 => 0x3F41DC33#32
  | 67 => 0x3F41849B#32
  | 68 => 0x3F412CD9#32
  | 69 => 0x3F40D4EF#32
  | 70 => 0x3F407CDB#32
  | 71 => 0x3F40249E#32
  | 72 => 0x3F3FCC38#32
  | 73 => 0x3F3F73AA#32
  | 74 => 0x3F3F1AF4#32
  | 75 => 0x3F3EC215#32
  | 76 => 0x3F3E690F#32
  | 77 => 0x3F3E0FE1#32
  | 78 => 0x3F3DB68B#32
  | 79 => 0x3F3D5D0F#32
  | 80 => 0x3F3D036B#32
  | 81 => 0x3F3CA9A1#32
  | 82 => 0x3F3C4FB0#32
  | 83 => 0x3F3BF599#32
  | 84 => 0x3F3B9B5B#32
  | 85 => 0x3F3B40F8#32
  | 86 => 0x3F3AE670#32
  | 87 => 0x3F3A8BC1#32
  | 88 => 0x3F3A30EE#32
  | 89 => 0x3F39D5F6#32
  | 90 => 0x3F397AD9#32
  | 91 => 0x3F391F97#32
  | 92 => 0x3F38C431#32
  | 93 => 0x3F3868A7#32
  | 94 => 0x3F380CFA#32
  | 95 => 0x3F37B128#32
  | 96 => 0x3F375534#32
  | 97 => 0x3F36F91C#32
  | 98 => 0x3F369CE1#32
  | 99 => 0x3F364084#32
  | 100 => 0x3F35E404#32
  | 101 => 0x3F358762#32
  | 102 => 0x3F352A9E#32
  | 103 => 0x3F34CDB8#32
  | 104 => 0x3F3470B1#32
  | 105 => 0x3F341388#32
  | 106 => 0x3F33B63E#32
  | 107 => 0x3F3358D4#32
  | 108 => 0x3F32FB49#32
  | 109 => 0x3F329D9D#32
  | 110 => 0x3F323FD1#32
  | 111 => 0x3F31E1E6#32
  | 112 => 0x3F3183DA#32
  | 113 => 0x3F3125B0#32
  | 114 => 0x3F30C766#32
  | 115 => 0x3F3068FD#32
  | 116 => 0x3F300A75#32
  | 117 => 0x3F2FABCF#32
  | 118 => 0x3F2F4D0A#32
  | 119 => 0x3F2EEE28#32
  | 120 => 0x3F2E8F28#32
  | 121 => 0x3F2E300A#32
  | 122 => 0x3F2DD0CE#32
  | 123 => 0x3F2D7176#32
  | 124 => 0x3F2D1201#32
  | 125 => 0x3F2CB26F#32
  | 126 => 0x3F2C52C1#32
  | 127 => 0x3F2BF2F7#32
  | _ => 0#32

noncomputable abbrev lit0t0_3 (i : Nat) : BitVec 32 := match i % 128 with
  | 0 => 0x3F2B9311#32
  | 1 => 0x3F2B330F#32
  | 2 => 0x3F2AD2F1#32
  | 3 => 0x3F2A72B9#32
  | 4 => 0x3F2A1265#32
  | 5 => 0x3F29B1F7#32
  | 6 => 0x3F29516E#32
  | 7 => 0x3F28F0CC#32
  | 8 => 0x3F28900F#32
  | 9 => 0x3F282F38#32
  | 10 => 0x3F27CE48#32
  | 11 => 0x3F276D3E#32
  | 12 => 0x3F270C1C#32
  | 13 => 0x3F26AAE1#32
  | 14 => 0x3F26498D#32
  | 15 => 0x3F25E821#32
  | 16 => 0x3F25869C#32
  | 17 => 0x3F252500#32
  | 18 => 0x3F24C34D#32
  | 19 => 0x3F246182#32
  | 20 => 0x3F23FFA0#32
  | 21 => 0x3F239DA7#32
  | 22 => 0x3F233B97#32
  | 23 => 0x3F22D971#32
  | 24 => 0x3F227735#32
  | 25 => 0x3F2214E3#32
  | 26 => 0x3F21B27C#32
  | 27 => 0x3F214FFF#32
  | 28 => 0x3F20ED6D#32
  | 29 => 0x3F208AC6#32
  | 30 => 0x3F20280A#32
  | 31 => 0x3F1FC53A#32
  | 32 => 0x3F1F6256#32
  | 33 => 0x3F1EFF5D#32
  | 34 => 0x3F1E9C51#32
  | 35 => 0x3F1E3932#32
  | 36 => 0x3F1DD600#32
  | 37 => 0x3F1D72BA#32
  | 38 => 0x3F1D0F62#32
  | 39 => 0x3F1CABF7#32
  | 40 => 0x3F1C487B#32
  | 41 => 0x3F1BE4EC#32
  | 42 => 0x3F1B814B#32
  | 43 => 0x3F1B1D9A#32
  | 44 => 0x3F1AB9D6#32
  | 45 => 0x3F1A5602#32
  | 46 => 0x3F19F21D#32
  | 47 => 0x3F198E28#32
  | 48 => 0x3F192A23#32
  | 49 => 0x3F18C60D#32
  | 50 => 0x3F1861E8#32
  | 51 => 0x3F17FDB3#32
  | 52 => 0x3F17996F#32
  | 53 => 0x3F17351C#32
  | 54 => 0x3F16D0BB#32
  | 55 => 0x3F166C4B#32
  | 56 => 0x3F1607CC#32
  | 57 => 0x3F15A340#32
  | 58 => 0x3F153EA6#32
  | 59 => 0x3F14D9FE#32
  | 60 => 0x3F14754A#32
  | 61 => 0x3F141088#32
  | 62 => 0x3F13ABB9#32
  | 63 => 0x3F1346DE#32
  | 64 => 0x3F12E1F7#32
  | 65 => 0x3F127D04#32
  | 66 => 0x3F121805#32
  | 67 => 0x3F11B2FA#32
  | 68 => 0x3F114DE5#32
  | 69 => 0x3F10E8C4#32
  | 70 => 0x3F108399#32
  | 71 => 0x3F101E63#32
  | 72 => 0x3F0FB923#32
  | 73 => 0x3F0F53D9#32
  | 74 => 0x3F0EEE85#32
  | 75 => 0x3F0E8928#32
  | 76 => 0x3F0E23C1#32
  | 77 => 0x3F0DBE52#32
  | 78 => 0x3F0D58DA#32
  | 79 => 0x3F0CF359#32
  | 80 => 0x3F0C8DD0#32
  | 81 => 0x3F0C283F#32
  | 82 => 0x3F0BC2A7#32
  | 83 => 0x3F0B5D07#32
  | 84 => 0x3F0AF760#32
  | 85 => 0x3F0A91B2#32
  | 86 => 0x3F0A2BFD#32
  | 87 => 0x3F09C641#32
  | 88 => 0x3F096080#32
  | 89 => 0x3F08FAB8#32
  | 90 => 0x3F0894EB#32
  | 91 => 0x3F082F19#32
  | 92 => 0x3F07C941#32
  | 93 => 0x3F076364#32
  | 94 => 0x3F06FD83#32
  | 95 => 0x3F06979D#32
  | 96 => 0x3F0631B3#32
  | 97 => 0x3F05CBC5#32
  | 98 => 0x3F0565D4#32
  | 99 => 0x3F04FFDF#32
  | 100 => 0x3F0499E7#32
  | 101 => 0x3F0433EC#32
  | 102 => 0x3F03CDEE#32
  | 103 => 0x3F0367EE#32
  | 104 => 0x3F0301EB#32
  | 105 => 0x3F029BE7#32
  | 106 => 0x3F0235E1#32
  | 107 => 0x3F01CFDA#32
  | 108 => 0x3F0169D2#32
  | 109 => 0x3F0103C9#32
  | 110 => 0x3F009DBF#32
  | 111 => 0x3F0037B5#32
  | 112 => 0x3EFFA354#32
  | 113 => 0x3EFED740#32
  | 114 => 0x3EFE0B2C#32
  | 115 => 0x3EFD3F1A#32
  | 116 => 0x3EFC7309#32
  | 117 => 0x3EFBA6FB#32
  | 118 => 0x3EFADAEF#32
  | 119 => 0x3EFA0EE7#32
  | 120 => 0x3EF942E2#32
  | 121 => 0x3EF876E2#32
  | 122 => 0x3EF7AAE7#32
  | 123 => 0x3EF6DEF1#32
  | 124 => 0x3EF61300#32
  | 125 => 0x3EF54716#32
  | 126 => 0x3EF47B33#32
  | 127 => 0x3EF3AF58#32
  | _ => 0#32

noncomputable abbrev lit0t0_4 (i : Nat) : BitVec 32 := match i % 128 with
  | 0 => 0x3EF2E384#32
  | 1 => 0x3EF217B8#32
  | 2 => 0x3EF14BF6#32
  | 3 => 0x3EF0803C#32
  | 4 => 0x3EEFB48D#32
  | 5 => 0x3EEEE8E8#32
  | 6 => 0x3EEE1D4E#32
  | 7 => 0x3EED51BF#32
  | 8 => 0x3EEC863C#32
  | 9 => 0x3EEBBAC6#32
  | 10 => 0x3EEAEF5C#32
  | 11 => 0x3EEA2400#32
  | 12 => 0x3EE958B1#32
  | 13 => 0x3EE88D72#32
  | 14 => 0x3EE7C241#32
  | 15 => 0x3EE6F71F#32
  | 16 => 0x3EE62C0E#32
  | 17 => 0x3EE5610D#32
  | 18 => 0x3EE4961C#32
  | 19 => 0x3EE3CB3E#32
  | 20 => 0x3EE30071#32
  | 21 => 0x3EE235B6#32
  | 22 => 0x3EE16B0F#32
  | 23 => 0x3EE0A07B#32
  | 24 => 0x3EDFD5FB#32
  | 25 => 0x3EDF0B90#32
  | 26 => 0x3EDE4139#32
  | 27 => 0x3EDD76F8#32
  | 28 => 0x3EDCACCD#32
  | 29 => 0x3EDBE2B8#32
  | 30 => 0x3EDB18BA#32
  | 31 => 0x3EDA4ED4#32
  | 32 => 0x3ED98506#32
  | 33 => 0x3ED8BB50#32
  | 34 => 0x3ED7F1B3#32
  | 35 => 0x3ED72830#32
  | 36 => 0x3ED65EC6#32
  | 37 => 0x3ED59578#32
  | 38 => 0x3ED4CC44#32
  | 39 => 0x3ED4032B#32
  | 40 => 0x3ED33A2F#32
  | 41 => 0x3ED2714F#32
  | 42 => 0x3ED1A88C#32
  | 43 => 0x3ED0DFE6#32
  | 44 => 0x3ED0175E#32
  | 45 => 0x3ECF4EF5#32
  | 46 => 0x3ECE86AB#32
  | 47 => 0x3ECDBE80#32
  | 48 => 0x3ECCF676#32
  | 49 => 0x3ECC2E8B#32
  | 50 => 0x3ECB66C2#32
  | 51 => 0x3ECA9F1A#32
  | 52 => 0x3EC9D794#32
  | 53 => 0x3EC91030#32
  | 54 => 0x3EC848F0#32
  | 55 => 0x3EC781D3#32
  | 56 => 0x3EC6BAD9#32
  | 57 => 0x3EC5F404#32
  | 58 => 0x3EC52D54#32
  | 59 => 0x3EC466CA#32
  | 60 => 0x3EC3A065#32
  | 61 => 0x3EC2DA27#32
  | 62 => 0x3EC2140F#32
  | 63 => 0x3EC14E1F#32
  | 64 => 0x3EC08857#32
  | 65 => 0x3EBFC2B7#32
  | 66 => 0x3EBEFD40#32
  | 67 => 0x3EBE37F2#32
  | 68 => 0x3EBD72CE#32
  | 69 => 0x3EBCADD5#32
  | 70 => 0x3EBBE906#32
  | 71 => 0x3EBB2462#32
  | 72 => 0x3EBA5FEB#32
  | 73 => 0x3EB99B9F#32
  | 74 => 0x3EB8D781#32
  | 75 => 0x3EB8138F#32
  | 76 => 0x3EB74FCB#32
  | 77 => 0x3EB68C36#32
  | 78 => 0x3EB5C8CF#32
  | 79 => 0x3EB50597#32
  | 80 => 0x3EB4428F#32
  | 81 => 0x3EB37FB7#32
  | 82 => 0x3EB2BD10#32
  | 83 => 0x3EB1FA9A#32
  | 84 => 0x3EB13855#32
  | 85 => 0x3EB07643#32
  | 86 => 0x3EAFB463#32
  | 87 => 0x3EAEF2B6#32
  | 88 => 0x3EAE313C#32
  | 89 => 0x3EAD6FF7#32
  | 90 => 0x3EACAEE6#32
  | 91 => 0x3EABEE0A#32
  | 92 => 0x3EAB2D64#32
  | 93 => 0x3EAA6CF3#32
  | 94 => 0x3EA9ACB9#32
  | 95 => 0x3EA8ECB5#32
  | 96 => 0x3EA82CE9#32
  | 97 => 0x3EA76D55#32
  | 98 => 0x3EA6ADF9#32
  | 99 => 0x3EA5EED6#32
  | 100 => 0x3EA52FEC#32
  | 101 => 0x3EA4713C#32
  | 102 => 0x3EA3B2C6#32
  | 103 => 0x3EA2F48B#32
  | 104 => 0x3EA2368B#32
  | 105 => 0x3EA178C6#32
  | 106 => 0x3EA0BB3E#32
  | 107 => 0x3E9FFDF2#32
  | 108 => 0x3E9F40E3#32
  | 109 => 0x3E9E8412#32
  | 110 => 0x3E9DC77E#32
  | 111 => 0x3E9D0B29#32
  | 112 => 0x3E9C4F13#32
  | 113 => 0x3E9B933D#32
  | 114 => 0x3E9AD7A6#32
  | 115 => 0x3E9A1C4F#32
  | 116 => 0x3E996139#32
  | 117 => 0x3E98A664#32
  | 118 => 0x3E97EBD2#32
  | 119 => 0x3E973181#32
  | 120 => 0x3E967773#32
  | 121 => 0x3E95BDA7#32
  | 122 => 0x3E950420#32
  | 123 => 0x3E944ADC#32
  | 124 => 0x3E9391DD#32
  | 125 => 0x3E92D923#32
  | 126 => 0x3E9220AE#32
  | 127 => 0x3E91687F#32
  | _ => 0#32

noncomputable abbrev lit0t0_5 (i : Nat) : BitVec 32 := match i % 128 with
  | 0 => 0x3E90B096#32
  | 1 => 0x3E8FF8F4#32
  | 2 => 0x3E8F4199#32
  | 3 => 0x3E8E8A86#32
  | 4 => 0x3E8DD3BB#32
  | 5 => 0x3E8D1D39#32
  | 6 => 0x3E8C66FF#32
  | 7 => 0x3E8BB10F#32
  | 8 => 0x3E8AFB69#32
  | 9 => 0x3E8A460D#32
  | 10 => 0x3E8990FC#32
  | 11 => 0x3E88DC37#32
  | 12 => 0x3E8827BD#32
  | 13 => 0x3E87738F#32
  | 14 => 0x3E86BFAE#32
  | 15 => 0x3E860C1A#32
  | 16 => 0x3E8558D3#32
  | 17 => 0x3E84A5DB#32
  | 18 => 0x3E83F330#32
  | 19 => 0x3E8340D5#32
  | 20 => 0x3E828EC9#32
  | 21 => 0x3E81DD0D#32
  | 22 => 0x3E812BA0#32
  | 23 => 0x3E807A85#32
  | 24 => 0x3E7F9374#32
  | 25 => 0x3E7E3282#32
  | 26 => 0x3E7CD233#32
  | 27 => 0x3E7B728A#32
  | 28 => 0x3E7A1386#32
  | 29 => 0x3E78B528#32
  | 30 => 0x3E775772#32
  | 31 => 0x3E75FA64#32
  | 32 => 0x3E749DFF#32
  | 33 => 0x3E734243#32
  | 34 => 0x3E71E733#32
  | 35 => 0x3E708CCE#32
  | 36 => 0x3E6F3316#32
  | 37 => 0x3E6DDA0B#32
  | 38 => 0x3E6C81AF#32
  | 39 => 0x3E6B2A01#32
  | 40 => 0x3E69D304#32
  | 41 => 0x3E687CB7#32
  | 42 => 0x3E67271B#32
  | 43 => 0x3E65D233#32
  | 44 => 0x3E647DFD#32
  | 45 => 0x3E632A7C#32
  | 46 => 0x3E61D7B0#32
  | 47 => 0x3E60859A#32
  | 48 => 0x3E5F343A#32
  | 49 => 0x3E5DE392#32
  | 50 => 0x3E5C93A2#32
  | 51 => 0x3E5B446B#32
  | 52 => 0x3E59F5EF#32
  | 53 => 0x3E58A82D#32
  | 54 => 0x3E575B27#32
  | 55 => 0x3E560EDE#32
  | 56 => 0x3E54C351#32
  | 57 => 0x3E537883#32
  | 58 => 0x3E522E74#32
  | 59 => 0x3E50E525#32
  | 60 => 0x3E4F9C96#32
  | 61 => 0x3E4E54C9#32
  | 62 => 0x3E4D0DBE#32
  | 63 => 0x3E4BC777#32
  | 64 => 0x3E4A81F3#32
  | 65 => 0x3E493D33#32
  | 66 => 0x3E47F939#32
  | 67 => 0x3E46B606#32
  | 68 => 0x3E457399#32
  | 69 => 0x3E4431F5#32
  | 70 => 0x3E42F119#32
  | 71 => 0x3E41B106#32
  | 72 => 0x3E4071BE#32
  | 73 => 0x3E3F3341#32
  | 74 => 0x3E3DF590#32
  | 75 => 0x3E3CB8AB#32
  | 76 => 0x3E3B7C94#32
  | 77 => 0x3E3A414B#32
  | 78 => 0x3E3906D2#32
  | 79 => 0x3E37CD27#32
  | 80 => 0x3E36944E#32
  | 81 => 0x3E355C46#32
  | 82 => 0x3E342510#32
  | 83 => 0x3E32EEAC#32
  | 84 => 0x3E31B91D#32
  | 85 => 0x3E308462#32
  | 86 => 0x3E2F507C#32
  | 87 => 0x3E2E1D6C#32
  | 88 => 0x3E2CEB32#32
  | 89 => 0x3E2BB9D1#32
  | 90 => 0x3E2A8947#32
  | 91 => 0x3E295996#32
  | 92 => 0x3E282ABF#32
  | 93 => 0x3E26FCC3#32
  | 94 => 0x3E25CFA2#32
  | 95 => 0x3E24A35D#32
  | 96 => 0x3E2377F4#32
  | 97 => 0x3E224D6A#32
  | 98 => 0x3E2123BD#32
  | 99 => 0x3E1FFAEF#32
  | 100 => 0x3E1ED301#32
  | 101 => 0x3E1DABF3#32
  | 102 => 0x3E1C85C7#32
  | 103 => 0x3E1B607C#32
  | 104 => 0x3E1A3C15#32
  | 105 => 0x3E191890#32
  | 106 => 0x3E17F5EF#32
  | 107 => 0x3E16D434#32
  | 108 => 0x3E15B35D#32
  | 109 => 0x3E14936D#32
  | 110 => 0x3E137464#32
  | 111 => 0x3E125643#32
  | 112 => 0x3E11390A#32
  | 113 => 0x3E101CBA#32
  | 114 => 0x3E0F0154#32
  | 115 => 0x3E0DE6D8#32
  | 116 => 0x3E0CCD47#32
  | 117 => 0x3E0BB4A3#32
  | 118 => 0x3E0A9CEB#32
  | 119 => 0x3E098620#32
  | 120 => 0x3E087043#32
  | 121 => 0x3E075B55#32
  | 122 => 0x3E064756#32
  | 123 => 0x3E053447#32
  | 124 => 0x3E042229#32
  | 125 => 0x3E0310FC#32
  | 126 => 0x3E0200C1#32
  | 127 => 0x3E00F179#32
  | _ => 0#32

noncomputable abbrev lit0t0_6 (i : Nat) : BitVec 32 := match i % 128 with
  | 0 => 0x3DFFC64A#32
  | 1 => 0x3DFDAB89#32
  | 2 => 0x3DFB92B1#32
  | 3 => 0x3DF97BC5#32
  | 4 => 0x3DF766C4#32
  | 5 => 0x3DF553B2#32
  | 6 => 0x3DF3428D#32
  | 7 => 0x3DF13359#32
  | 8 => 0x3DEF2617#32
  | 9 => 0x3DED1AC7#32
  | 10 => 0x3DEB116B#32
  | 11 => 0x3DE90A05#32
  | 12 => 0x3DE70495#32
  | 13 => 0x3DE5011D#32
  | 14 => 0x3DE2FF9E#32
  | 15 => 0x3DE1001A#32
  | 16 => 0x3DDF0291#32
  | 17 => 0x3DDD0705#32
  | 18 => 0x3DDB0D78#32
  | 19 => 0x3DD915EA#32
  | 20 => 0x3DD7205D#32
  | 21 => 0x3DD52CD2#32
  | 22 => 0x3DD33B4A#32
  | 23 => 0x3DD14BC6#32
  | 24 => 0x3DCF5E48#32
  | 25 => 0x3DCD72D1#32
  | 26 => 0x3DCB8963#32
  | 27 => 0x3DC9A1FD#32
  | 28 => 0x3DC7BCA3#32
  | 29 => 0x3DC5D954#32
  | 30 => 0x3DC3F811#32
  | 31 => 0x3DC218DE#32
  | 32 => 0x3DC03BB9#32
  | 33 => 0x3DBE60A5#32
  | 34 => 0x3DBC87A3#32
  | 35 => 0x3DBAB0B3#32
  | 36 => 0x3DB8DBD8#32
  | 37 => 0x3DB70912#32
  | 38 => 0x3DB53862#32
  | 39 => 0x3DB369CA#32
  | 40 => 0x3DB19D4A#32
  | 41 => 0x3DAFD2E5#32
  | 42 => 0x3DAE0A9A#32
  | 43 => 0x3DAC446B#32
  | 44 => 0x3DAA805A#32
  | 45 => 0x3DA8BE67#32
  | 46 => 0x3DA6FE93#32
  | 47 => 0x3DA540E0#32
  | 48 => 0x3DA3854E#32
  | 49 => 0x3DA1CBE0#32
  | 50 => 0x3DA01495#32
  | 51 => 0x3D9E5F6F#32
  | 52 => 0x3D9CAC70#32
  | 53 => 0x3D9AFB97#32
  | 54 => 0x3D994CE7#32
  | 55 => 0x3D97A05F#32
  | 56 => 0x3D95F603#32
  | 57 => 0x3D944DD1#32
  | 58 => 0x3D92A7CC#32
  | 59 => 0x3D9103F5#32
  | 60 => 0x3D8F624C#32
  | 61 => 0x3D8DC2D3#32
  | 62 => 0x3D8C258A#32
  | 63 => 0x3D8A8A73#32
  | 64 => 0x3D88F18E#32
  | 65 => 0x3D875ADD#32
  | 66 => 0x3D85C661#32
  | 67 => 0x3D84341B#32
  | 68 => 0x3D82A40B#32
  | 69 => 0x3D811633#32
  | 70 => 0x3D7F1527#32
  | 71 => 0x3D7C025B#32
  | 72 => 0x3D78F404#32
  | 73 => 0x3D75EA25#32
  | 74 => 0x3D72E4BF#32
  | 75 => 0x3D6FE3D4#32
  | 76 => 0x3D6CE766#32
  | 77 => 0x3D69EF76#32
  | 78 => 0x3D66FC07#32
  | 79 => 0x3D640D1B#32
  | 80 => 0x3D6122B4#32
  | 81 => 0x3D5E3CD2#32
  | 82 => 0x3D5B5B79#32
  | 83 => 0x3D587EAA#32
  | 84 => 0x3D55A666#32
  | 85 => 0x3D52D2B0#32
  | 86 => 0x3D50038A#32
  | 87 => 0x3D4D38F4#32
  | 88 => 0x3D4A72F2#32
  | 89 => 0x3D47B184#32
  | 90 => 0x3D44F4AD#32
  | 91 => 0x3D423C6E#32
  | 92 => 0x3D3F88C9#32
  | 93 => 0x3D3CD9C0#32
  | 94 => 0x3D3A2F53#32
  | 95 => 0x3D378986#32
  | 96 => 0x3D34E85A#32
  | 97 => 0x3D324BD0#32
  | 98 => 0x3D2FB3EA#32
  | 99 => 0x3D2D20AA#32
  | 100 => 0x3D2A9211#32
  | 101 => 0x3D280821#32
  | 102 => 0x3D2582DC#32
  | 103 => 0x3D230243#32
  | 104 => 0x3D208658#32
  | 105 => 0x3D1E0F1C#32
  | 106 => 0x3D1B9C91#32
  | 107 => 0x3D192EB8#32
  | 108 => 0x3D16C593#32
  | 109 => 0x3D146124#32
  | 110 => 0x3D12016C#32
  | 111 => 0x3D0FA66D#32
  | 112 => 0x3D0D5028#32
  | 113 => 0x3D0AFE9E#32
  | 114 => 0x3D08B1D1#32
  | 115 => 0x3D0669C3#32
  | 116 => 0x3D042674#32
  | 117 => 0x3D01E7E7#32
  | 118 => 0x3CFF5C3A#32
  | 119 => 0x3CFAF22E#32
  | 120 => 0x3CF691AE#32
  | 121 => 0x3CF23ABB#32
  | 122 => 0x3CEDED59#32
  | 123 => 0x3CE9A98B#32
  | 124 => 0x3CE56F52#32
  | 125 => 0x3CE13EB3#32
  | 126 => 0x3CDD17AF#32
  | 127 => 0x3CD8FA4A#32
  | _ => 0#32

noncomputable abbrev lit0t0_7 (i : Nat) : BitVec 32 := match i % 128 with
  | 0 => 0x3CD4E685#32
  | 1 => 0x3CD0DC64#32
  | 2 => 0x3CCCDBE8#32
  | 3 => 0x3CC8E515#32
  | 4 => 0x3CC4F7ED#32
  | 5 => 0x3CC11473#32
  | 6 => 0x3CBD3AA9#32
  | 7 => 0x3CB96A91#32
  | 8 => 0x3CB5A42E#32
  | 9 => 0x3CB1E782#32
  | 10 => 0x3CAE3490#32
  | 11 => 0x3CAA8B5A#32
  | 12 => 0x3CA6EBE2#32
  | 13 => 0x3CA3562B#32
  | 14 => 0x3C9FCA36#32
  | 15 => 0x3C9C4807#32
  | 16 => 0x3C98CF9F#32
  | 17 => 0x3C956101#32
  | 18 => 0x3C91FC2F#32
  | 19 => 0x3C8EA12A#32
  | 20 => 0x3C8B4FF5#32
  | 21 => 0x3C880893#32
  | 22 => 0x3C84CB05#32
  | 23 => 0x3C81974D#32
  | 24 => 0x3C7CDADB#32
  | 25 => 0x3C769AD1#32
  | 26 => 0x3C706E7F#32
  | 27 => 0x3C6A55EA#32
  | 28 => 0x3C645115#32
  | 29 => 0x3C5E6005#32
  | 30 => 0x3C5882BD#32
  | 31 => 0x3C52B940#32
  | 32 => 0x3C4D0393#32
  | 33 => 0x3C4761B9#32
  | 34 => 0x3C41D3B5#32
  | 35 => 0x3C3C598C#32
  | 36 => 0x3C36F340#32
  | 37 => 0x3C31A0D6#32
  | 38 => 0x3C2C6250#32
  | 39 => 0x3C2737B2#32
  | 40 => 0x3C2220FE#32
  | 41 => 0x3C1D1E3A#32
  | 42 => 0x3C182F66#32
  | 43 => 0x3C135488#32
  | 44 => 0x3C0E8DA1#32
  | 45 => 0x3C09DAB4#32
  | 46 => 0x3C053BC6#32
  | 47 => 0x3C00B0D8#32
  | 48 => 0x3BF873DC#32
  | 49 => 0x3BEFAE14#32
  | 50 => 0x3BE7105F#32
  | 51 => 0x3BDE9AC1#32
  | 52 => 0x3BD64D41#32
  | 53 => 0x3BCE27E3#32
  | 54 => 0x3BC62AAD#32
  | 55 => 0x3BBE55A4#32
  | 56 => 0x3BB6A8CC#32
  | 57 => 0x3BAF242B#32
  | 58 => 0x3BA7C7C6#32
  | 59 => 0x3BA093A0#32
  | 60 => 0x3B9987BF#32
  | 61 => 0x3B92A427#32
  | 62 => 0x3B8BE8DD#32
  | 63 => 0x3B8555E4#32
  | 64 => 0x3B7DD683#32
  | 65 => 0x3B7151F1#32
  | 66 => 0x3B651E1C#32
  | 67 => 0x3B593B0A#32
  | 68 => 0x3B4DA8C4#32
  | 69 => 0x3B426750#32
  | 70 => 0x3B3776B6#32
  | 71 => 0x3B2CD6FD#32
  | 72 => 0x3B22882B#32
  | 73 => 0x3B188A47#32
  | 74 => 0x3B0EDD58#32
  | 75 => 0x3B058163#32
  | 76 => 0x3AF8ECDD#32
  | 77 => 0x3AE77900#32
  | 78 => 0x3AD6A73C#32
  | 79 => 0x3AC67799#32
  | 80 => 0x3AB6EA23#32
  | 81 => 0x3AA7FEE3#32
  | 82 => 0x3A99B5E3#32
  | 83 => 0x3A8C0F2C#32
  | 84 => 0x3A7E158C#32
  | 85 => 0x3A655175#32
  | 86 => 0x3A4DD221#32
  | 87 => 0x3A37979F#32
  | 88 => 0x3A22A1FE#32
  | 89 => 0x3A0EF14B#32
  | 90 => 0x39F90B24#32
  | 91 => 0x39D6BDBF#32
  | 92 => 0x39B6FA7B#32
  | 93 => 0x3999C16D#32
  | 94 => 0x397E2550#32
  | 95 => 0x394DDC79#32
  | 96 => 0x3922A874#32
  | 97 => 0x38F912B7#32
  | 98 => 0x38B6FE91#32
  | 99 => 0x387E2941#32
  | 100 => 0x3822AA11#32
  | 101 => 0x37B6FF97#32
  | 102 => 0x3722AA78#32
  | 103 => 0x3622AA92#32
  | 104 => 0x2F854198#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | _ => 0#32

noncomputable abbrev lit0 : Fin 1001 → BitVec 32 := fun ⟨i, _⟩ => lit0t i

def fn_one_hot {F : FTy → Type} [FloatOps F] (arg0 : IVec S524288 32) : FVec F S524288x64 .f32 :=
  let v0 : IVec S524288x1 32 := broadcastInDim S524288x1 ![0] bcast_S524288_S524288x1_0 arg0
  let v1 : IVec S1x64 32 := iotaInDim S1x64 32 1
  let v2 : IVec S524288x64 32 := broadcastInDim S524288x64 ![0, 1] bcast_S524288x1_S524288x64_0_1 v0
  let v3 : IVec S524288x64 32 := broadcastInDim S524288x64 ![0, 1] bcast_S1x64_S524288x64_0_1 v1
  let v4 : IVec S524288x64 1 := cmpi .eq v2 v3
  let v5 : FVec F S524288x64 .f32 := uitofp .f32 v4
  v5

def fn_threefry2x32_part9 {F : FTy → Type} [FloatOps F] (arg0 : IVec S_ 32) (v163 : IVec S524288x64 32) (v169 : IVec S524288x64 32) (v170 : IVec S524288x64 32) : IVec S524288x64 32 × IVec S524288x64 32 :=
  let v171 : IVec S524288x64 32 := addi v163 v170
  let v172 : IVec S524288x64 32 := broadcastInDim S524288x64 ![] bcast_S_S524288x64 arg0
  let v173 : IVec S524288x64 32 := addi v169 v172
  let c_44 : IVec S_ 32 := constantI S_ 32 5#32
  let v174 : IVec S524288x64 32 := broadcastInDim S524288x64 ![] bcast_S_S524288x64 c_44
  let v175 : IVec S524288x64 32 := addi v173 v174
  (v171, v175)

def fn_threefry2x32_part8 {F : FTy → Type} [FloatOps F] (arg0 : IVec S_ 32) (v1 : IVec S_ 32) (v148 : IVec S524288x64 32) (v149 : IVec S524288x64 32) (v151 : IVec S524288x64 32) : IVec S524288x64 32 × IVec S524288x64 32 :=
  let c_39 : IVec S_ 32 := constantI S_ 32 17#32
  let v152 : IVec S524288x64 32 := broadcastInDim S524288x64 ![] bcast_S_S524288x64 c_39
  let v153 : IVec S524288x64 32 := Host.shrui v148 v152
  let v154 : IVec S524288x64 32 := ori v151 v153
  let v155 : IVec S524288x64 32 := xori v149 v154
  let v156 : IVec S524288x64 32 := addi v149 v155
  let c_40 : IVec S_ 32 := constantI S_ 32 26#32
  let v157 : IVec S524288x64 32 := broadcastInDim S524288x64 ![] bcast_S_S524288x64 c_40
  let v158 : IVec S524288x64 32 := Host.shli v155 v157
  let c_41 : IVec S_ 32 := constantI S_ 32 6#32
  let v159 : IVec S524288x64 32 := broadcastInDim S524288x64 ![] bcast_S_S524288x64 c_41
  let v160 : IVec S524288x64 32 := Host.shrui v155 v159
  let v161 : IVec S524288x64 32 := ori v158 v160
  let v162 : IVec S524288x64 32 := xori v156 v161
  let v163 : IVec S524288x64 32 := addi v156 v162
  let c_42 : IVec S_ 32 := constantI S_ 32 6#32
  let v164 : IVec S524288x64 32 := broadcastInDim S524288x64 ![] bcast_S_S524288x64 c_42
  let v165 : IVec S524288x64 32 := Host.shli v162 v164
  let c_43 : IVec S_ 32 := constantI S_ 32 26#32
  let v166 : IVec S524288x64 32 := broadcastInDim S524288x64 ![] bcast_S_S524288x64 c_43
  let v167 : IVec S524288x64 32 := Host.shrui v162 v166
  let v168 : IVec S524288x64 32 := ori v165 v167
  let v169 : IVec S524288x64 32 := xori v163 v168
  let v170 : IVec S524288x64 32 := broadcastInDim S524288x64 ![] bcast_S_S524288x64 v1
  fn_threefry2x32_part9 (F := F) arg0 v163 v169 v170

def fn_threefry2x32_part7 {F : FTy → Type} [FloatOps F] (arg0 : IVec S_ 32) (arg1 : IVec S_ 32) (v1 : IVec S_ 32) (v128 : IVec S524288x64 32) (v129 : IVec S524288x64 32) (v131 : IVec S524288x64 32) (c_34 : IVec S_ 32) : IVec S524288x64 32 × IVec S524288x64 32 :=
  let v132 : IVec S524288x64 32 := broadcastInDim S524288x64 ![] bcast_S_S524288x64 c_34
  let v133 : IVec S524288x64 32 := Host.shrui v128 v132
  let v134 : IVec S524288x64 32 := ori v131 v133
  let v135 : IVec S524288x64 32 := xori v129 v134
  let v136 : IVec S524288x64 32 := broadcastInDim S524288x64 ![] bcast_S_S524288x64 arg1
  let v137 : IVec S524288x64 32 := addi v129 v136
  let v138 : IVec S524288x64 32 := broadcastInDim S524288x64 ![] bcast_S_S524288x64 v1
  let v139 : IVec S524288x64 32 := addi v135 v138
  let c_35 : IVec S_ 32 := constantI S_ 32 4#32
  let v140 : IVec S524288x64 32 := broadcastInDim S524288x64 ![] bcast_S_S524288x64 c_35
  let v141 : IVec S524288x64 32 := addi v139 v140
  let v142 : IVec S524288x64 32 := addi v137 v141
  let c_36 : IVec S_ 32 := constantI S_ 32 13#32
  let v143 : IVec S524288x64 32 := broadcastInDim S524288x64 ![] bcast_S_S524288x64 c_36
  let v144 : IVec S524288x64 32 := Host.shli v141 v143
  let c_37 : IVec S_ 32 := constantI S_ 32 19#32
  let v145 : IVec S524288x64 32 := broadcastInDim S524288x64 ![] bcast_S_S524288x64 c_37
  let v146 : IVec S524288x64 32 := Host.shrui v141 v145
  let v147 : IVec S524288x64 32 := ori v144 v146
  let v148 : IVec S524288x64 32 := xori v142 v147
  let v149 : IVec S524288x64 32 := addi v142 v148
  let c_38 : IVec S_ 32 := constantI S_ 32 15#32
  let v150 : IVec S524288x64 32 := broadcastInDim S524288x64 ![] bcast_S_S524288x64 c_38
  let v151 : IVec S524288x64 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S524288x64 32) (v113 : IVec S524288x64 32) : IVec S524288x64 32 × IVec S524288x64 32 :=
  let v114 : IVec S524288x64 32 := xori v108 v113
  let v115 : IVec S524288x64 32 := addi v108 v114
  let c_29 : IVec S_ 32 := constantI S_ 32 29#32
  let v116 : IVec S524288x64 32 := broadcastInDim S524288x64 ![] bcast_S_S524288x64 c_29
  let v117 : IVec S524288x64 32 := Host.shli v114 v116
  let c_30 : IVec S_ 32 := constantI S_ 32 3#32
  let v118 : IVec S524288x64 32 := broadcastInDim S524288x64 ![] bcast_S_S524288x64 c_30
  let v119 : IVec S524288x64 32 := Host.shrui v114 v118
  let v120 : IVec S524288x64 32 := ori v117 v119
  let v121 : IVec S524288x64 32 := xori v115 v120
  let v122 : IVec S524288x64 32 := addi v115 v121
  let c_31 : IVec S_ 32 := constantI S_ 32 16#32
  let v123 : IVec S524288x64 32 := broadcastInDim S524288x64 ![] bcast_S_S524288x64 c_31
  let v124 : IVec S524288x64 32 := Host.shli v121 v123
  let c_32 : IVec S_ 32 := constantI S_ 32 16#32
  let v125 : IVec S524288x64 32 := broadcastInDim S524288x64 ![] bcast_S_S524288x64 c_32
  let v126 : IVec S524288x64 32 := Host.shrui v121 v125
  let v127 : IVec S524288x64 32 := ori v124 v126
  let v128 : IVec S524288x64 32 := xori v122 v127
  let v129 : IVec S524288x64 32 := addi v122 v128
  let c_33 : IVec S_ 32 := constantI S_ 32 24#32
  let v130 : IVec S524288x64 32 := broadcastInDim S524288x64 ![] bcast_S_S524288x64 c_33
  let v131 : IVec S524288x64 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S524288x64 32) (v94 : IVec S524288x64 32) : IVec S524288x64 32 × IVec S524288x64 32 :=
  let v95 : IVec S524288x64 32 := addi v88 v94
  let c_24 : IVec S_ 32 := constantI S_ 32 6#32
  let v96 : IVec S524288x64 32 := broadcastInDim S524288x64 ![] bcast_S_S524288x64 c_24
  let v97 : IVec S524288x64 32 := Host.shli v94 v96
  let c_25 : IVec S_ 32 := constantI S_ 32 26#32
  let v98 : IVec S524288x64 32 := broadcastInDim S524288x64 ![] bcast_S_S524288x64 c_25
  let v99 : IVec S524288x64 32 := Host.shrui v94 v98
  let v100 : IVec S524288x64 32 := ori v97 v99
  let v101 : IVec S524288x64 32 := xori v95 v100
  let v102 : IVec S524288x64 32 := broadcastInDim S524288x64 ![] bcast_S_S524288x64 arg0
  let v103 : IVec S524288x64 32 := addi v95 v102
  let v104 : IVec S524288x64 32 := broadcastInDim S524288x64 ![] bcast_S_S524288x64 arg1
  let v105 : IVec S524288x64 32 := addi v101 v104
  let c_26 : IVec S_ 32 := constantI S_ 32 3#32
  let v106 : IVec S524288x64 32 := broadcastInDim S524288x64 ![] bcast_S_S524288x64 c_26
  let v107 : IVec S524288x64 32 := addi v105 v106
  let v108 : IVec S524288x64 32 := addi v103 v107
  let c_27 : IVec S_ 32 := constantI S_ 32 17#32
  let v109 : IVec S524288x64 32 := broadcastInDim S524288x64 ![] bcast_S_S524288x64 c_27
  let v110 : IVec S524288x64 32 := Host.shli v107 v109
  let c_28 : IVec S_ 32 := constantI S_ 32 15#32
  let v111 : IVec S524288x64 32 := broadcastInDim S524288x64 ![] bcast_S_S524288x64 c_28
  let v112 : IVec S524288x64 32 := Host.shrui v107 v111
  let v113 : IVec S524288x64 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S524288x64 32) (v74 : IVec S524288x64 32) (v75 : IVec S524288x64 32) : IVec S524288x64 32 × IVec S524288x64 32 :=
  let v76 : IVec S524288x64 32 := Host.shli v73 v75
  let c_19 : IVec S_ 32 := constantI S_ 32 19#32
  let v77 : IVec S524288x64 32 := broadcastInDim S524288x64 ![] bcast_S_S524288x64 c_19
  let v78 : IVec S524288x64 32 := Host.shrui v73 v77
  let v79 : IVec S524288x64 32 := ori v76 v78
  let v80 : IVec S524288x64 32 := xori v74 v79
  let v81 : IVec S524288x64 32 := addi v74 v80
  let c_20 : IVec S_ 32 := constantI S_ 32 15#32
  let v82 : IVec S524288x64 32 := broadcastInDim S524288x64 ![] bcast_S_S524288x64 c_20
  let v83 : IVec S524288x64 32 := Host.shli v80 v82
  let c_21 : IVec S_ 32 := constantI S_ 32 17#32
  let v84 : IVec S524288x64 32 := broadcastInDim S524288x64 ![] bcast_S_S524288x64 c_21
  let v85 : IVec S524288x64 32 := Host.shrui v80 v84
  let v86 : IVec S524288x64 32 := ori v83 v85
  let v87 : IVec S524288x64 32 := xori v81 v86
  let v88 : IVec S524288x64 32 := addi v81 v87
  let c_22 : IVec S_ 32 := constantI S_ 32 26#32
  let v89 : IVec S524288x64 32 := broadcastInDim S524288x64 ![] bcast_S_S524288x64 c_22
  let v90 : IVec S524288x64 32 := Host.shli v87 v89
  let c_23 : IVec S_ 32 := constantI S_ 32 6#32
  let v91 : IVec S524288x64 32 := broadcastInDim S524288x64 ![] bcast_S_S524288x64 c_23
  let v92 : IVec S524288x64 32 := Host.shrui v87 v91
  let v93 : IVec S524288x64 32 := ori v90 v92
  let v94 : IVec S524288x64 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S524288x64 32) (v54 : IVec S524288x64 32) (v56 : IVec S524288x64 32) : IVec S524288x64 32 × IVec S524288x64 32 :=
  let c_14 : IVec S_ 32 := constantI S_ 32 16#32
  let v57 : IVec S524288x64 32 := broadcastInDim S524288x64 ![] bcast_S_S524288x64 c_14
  let v58 : IVec S524288x64 32 := Host.shrui v53 v57
  let v59 : IVec S524288x64 32 := ori v56 v58
  let v60 : IVec S524288x64 32 := xori v54 v59
  let v61 : IVec S524288x64 32 := addi v54 v60
  let c_15 : IVec S_ 32 := constantI S_ 32 24#32
  let v62 : IVec S524288x64 32 := broadcastInDim S524288x64 ![] bcast_S_S524288x64 c_15
  let v63 : IVec S524288x64 32 := Host.shli v60 v62
  let c_16 : IVec S_ 32 := constantI S_ 32 8#32
  let v64 : IVec S524288x64 32 := broadcastInDim S524288x64 ![] bcast_S_S524288x64 c_16
  let v65 : IVec S524288x64 32 := Host.shrui v60 v64
  let v66 : IVec S524288x64 32 := ori v63 v65
  let v67 : IVec S524288x64 32 := xori v61 v66
  let v68 : IVec S524288x64 32 := broadcastInDim S524288x64 ![] bcast_S_S524288x64 v1
  let v69 : IVec S524288x64 32 := addi v61 v68
  let v70 : IVec S524288x64 32 := broadcastInDim S524288x64 ![] bcast_S_S524288x64 arg0
  let v71 : IVec S524288x64 32 := addi v67 v70
  let c_17 : IVec S_ 32 := constantI S_ 32 2#32
  let v72 : IVec S524288x64 32 := broadcastInDim S524288x64 ![] bcast_S_S524288x64 c_17
  let v73 : IVec S524288x64 32 := addi v71 v72
  let v74 : IVec S524288x64 32 := addi v69 v73
  let c_18 : IVec S_ 32 := constantI S_ 32 13#32
  let v75 : IVec S524288x64 32 := broadcastInDim S524288x64 ![] bcast_S_S524288x64 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S524288x64 32) (v37 : IVec S524288x64 32) (c_8 : IVec S_ 32) : IVec S524288x64 32 × IVec S524288x64 32 :=
  let v38 : IVec S524288x64 32 := broadcastInDim S524288x64 ![] bcast_S_S524288x64 c_8
  let v39 : IVec S524288x64 32 := addi v37 v38
  let v40 : IVec S524288x64 32 := addi v35 v39
  let c_9 : IVec S_ 32 := constantI S_ 32 17#32
  let v41 : IVec S524288x64 32 := broadcastInDim S524288x64 ![] bcast_S_S524288x64 c_9
  let v42 : IVec S524288x64 32 := Host.shli v39 v41
  let c_10 : IVec S_ 32 := constantI S_ 32 15#32
  let v43 : IVec S524288x64 32 := broadcastInDim S524288x64 ![] bcast_S_S524288x64 c_10
  let v44 : IVec S524288x64 32 := Host.shrui v39 v43
  let v45 : IVec S524288x64 32 := ori v42 v44
  let v46 : IVec S524288x64 32 := xori v40 v45
  let v47 : IVec S524288x64 32 := addi v40 v46
  let c_11 : IVec S_ 32 := constantI S_ 32 29#32
  let v48 : IVec S524288x64 32 := broadcastInDim S524288x64 ![] bcast_S_S524288x64 c_11
  let v49 : IVec S524288x64 32 := Host.shli v46 v48
  let c_12 : IVec S_ 32 := constantI S_ 32 3#32
  let v50 : IVec S524288x64 32 := broadcastInDim S524288x64 ![] bcast_S_S524288x64 c_12
  let v51 : IVec S524288x64 32 := Host.shrui v46 v50
  let v52 : IVec S524288x64 32 := ori v49 v51
  let v53 : IVec S524288x64 32 := xori v47 v52
  let v54 : IVec S524288x64 32 := addi v47 v53
  let c_13 : IVec S_ 32 := constantI S_ 32 16#32
  let v55 : IVec S524288x64 32 := broadcastInDim S524288x64 ![] bcast_S_S524288x64 c_13
  let v56 : IVec S524288x64 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S524288x64 32) (v18 : IVec S524288x64 32) : IVec S524288x64 32 × IVec S524288x64 32 :=
  let v19 : IVec S524288x64 32 := xori v13 v18
  let v20 : IVec S524288x64 32 := addi v13 v19
  let c_4 : IVec S_ 32 := constantI S_ 32 26#32
  let v21 : IVec S524288x64 32 := broadcastInDim S524288x64 ![] bcast_S_S524288x64 c_4
  let v22 : IVec S524288x64 32 := Host.shli v19 v21
  let c_5 : IVec S_ 32 := constantI S_ 32 6#32
  let v23 : IVec S524288x64 32 := broadcastInDim S524288x64 ![] bcast_S_S524288x64 c_5
  let v24 : IVec S524288x64 32 := Host.shrui v19 v23
  let v25 : IVec S524288x64 32 := ori v22 v24
  let v26 : IVec S524288x64 32 := xori v20 v25
  let v27 : IVec S524288x64 32 := addi v20 v26
  let c_6 : IVec S_ 32 := constantI S_ 32 6#32
  let v28 : IVec S524288x64 32 := broadcastInDim S524288x64 ![] bcast_S_S524288x64 c_6
  let v29 : IVec S524288x64 32 := Host.shli v26 v28
  let c_7 : IVec S_ 32 := constantI S_ 32 26#32
  let v30 : IVec S524288x64 32 := broadcastInDim S524288x64 ![] bcast_S_S524288x64 c_7
  let v31 : IVec S524288x64 32 := Host.shrui v26 v30
  let v32 : IVec S524288x64 32 := ori v29 v31
  let v33 : IVec S524288x64 32 := xori v27 v32
  let v34 : IVec S524288x64 32 := broadcastInDim S524288x64 ![] bcast_S_S524288x64 arg1
  let v35 : IVec S524288x64 32 := addi v27 v34
  let v36 : IVec S524288x64 32 := broadcastInDim S524288x64 ![] bcast_S_S524288x64 v1
  let v37 : IVec S524288x64 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S524288x64 32) (arg3 : IVec S524288x64 32) : IVec S524288x64 32 × IVec S524288x64 32 :=
  let v0 : IVec S_ 32 := xori arg0 arg1
  let c : IVec S_ 32 := constantI S_ 32 466688986#32
  let v1 : IVec S_ 32 := xori v0 c
  let v2 : IVec S524288x64 32 := broadcastInDim S524288x64 ![] bcast_S_S524288x64 arg0
  let v3 : IVec S524288x64 32 := addi arg2 v2
  let v4 : IVec S524288x64 32 := broadcastInDim S524288x64 ![] bcast_S_S524288x64 arg1
  let v5 : IVec S524288x64 32 := addi arg3 v4
  let v6 : IVec S524288x64 32 := addi v3 v5
  let c_0 : IVec S_ 32 := constantI S_ 32 13#32
  let v7 : IVec S524288x64 32 := broadcastInDim S524288x64 ![] bcast_S_S524288x64 c_0
  let v8 : IVec S524288x64 32 := Host.shli v5 v7
  let c_1 : IVec S_ 32 := constantI S_ 32 19#32
  let v9 : IVec S524288x64 32 := broadcastInDim S524288x64 ![] bcast_S_S524288x64 c_1
  let v10 : IVec S524288x64 32 := Host.shrui v5 v9
  let v11 : IVec S524288x64 32 := ori v8 v10
  let v12 : IVec S524288x64 32 := xori v6 v11
  let v13 : IVec S524288x64 32 := addi v6 v12
  let c_2 : IVec S_ 32 := constantI S_ 32 15#32
  let v14 : IVec S524288x64 32 := broadcastInDim S524288x64 ![] bcast_S_S524288x64 c_2
  let v15 : IVec S524288x64 32 := Host.shli v12 v14
  let c_3 : IVec S_ 32 := constantI S_ 32 17#32
  let v16 : IVec S524288x64 32 := broadcastInDim S524288x64 ![] bcast_S_S524288x64 c_3
  let v17 : IVec S524288x64 32 := Host.shrui v12 v16
  let v18 : IVec S524288x64 32 := ori v15 v17
  fn_threefry2x32_part1 (F := F) arg0 arg1 v1 v13 v18

def fn_where {F : FTy → Type} [FloatOps F] (arg0 : IVec S524288x64 1) (arg1 : FVec F S_ .f32) (arg2 : FVec F S524288x64 .f32) : FVec F S524288x64 .f32 :=
  let v0 : FVec F S524288x64 .f32 := broadcastInDim S524288x64 ![] bcast_S_S524288x64 arg1
  let v1 : FVec F S524288x64 .f32 := select arg0 v0 arg2
  v1

def fn_part4 {F : FTy → Type} [FloatOps F] (main_v5 : IVec S_ 1) (main_v9 : IVec S_ 1) (main_v70 : FVec F S524288x64 .f32) (main_v73 : FVec F S524288x64 .f32) : IVec S_ 1 :=
  let main_v74 : IVec S524288x64 1 := cmpf .oeq main_v70 main_v73
  let main_v75 : IVec S524288x64 32 := (extui 32 · natLt_1_32) main_v74
  let main_c_19 : IVec S_ 32 := constantI S_ 32 0#32
  let main_v76 : IVec S524288 32 := (fun x v => Host.reduce IntOp.addi x v reducesTo_S524288x64_S524288_d1 h_S_) main_v75 main_c_19
  let main_c_20 : IVec S_ 32 := constantI S_ 32 1#32
  let main_v77 : IVec S524288 32 := broadcastInDim S524288 ![] bcast_S_S524288 main_c_20
  let main_v78 : IVec S524288 1 := cmpi .eq main_v76 main_v77
  let main_c_21 : IVec S_ 1 := constantI S_ 1 1#1
  let main_v79 : IVec S_ 1 := (fun x v => Host.reduce IntOp.andi x v reducesTo_S524288_S_d0 h_S_) main_v78 main_c_21
  let main_v80 : IVec S_ 1 := andi main_v5 main_v9
  let main_v81 : IVec S_ 1 := andi main_v80 main_v79
  main_v81

def fn_part3 {F : FTy → Type} [FloatOps F] (main_v5 : IVec S_ 1) (main_v9 : IVec S_ 1) (main_v29 : FVec F S524288x64 .f32) (main_v53 : IVec S524288x64 32) (main_v54 : IVec S524288x64 32) : IVec S_ 1 :=
  let main_v55 : IVec S524288x64 32 := Host.shrui main_v53 main_v54
  let main_v56 : IVec S524288x64 32 := id main_v55
  let main_c_14 : IVec S_ 32 := constantI S_ 32 0#32
  let main_v57 : IVec S524288x64 32 := broadcastInDim S524288x64 ![] bcast_S_S524288x64 main_c_14
  let main_v58 : IVec S524288x64 1 := cmpi .eq main_v56 main_v57
  let main_v59 : FVec F S524288x64 .f32 := sitofp .f32 main_v56
  let main_cst_15 : FVec F S_ .f32 := constant S_ .f32 0x34000000#32
  let main_v60 : FVec F S524288x64 .f32 := broadcastInDim S524288x64 ![] bcast_S_S524288x64 main_cst_15
  let main_v61 : FVec F S524288x64 .f32 := mulf main_v59 main_v60
  let main_cst_16 : FVec F S_ .f32 := constant S_ .f32 0x00800000#32
  let main_v62 : FVec F S524288x64 .f32 := fn_where (F := F) main_v58 main_cst_16 main_v61
  let main_v63 : FVec F S524288x64 .f32 := Host.log main_v62
  let main_v64 : FVec F S524288x64 .f32 := Host.negf main_v63
  let main_v65 : FVec F S524288x64 .f32 := Host.log main_v64
  let main_v66 : FVec F S524288x64 .f32 := Host.negf main_v65
  let main_cst_17 : FVec F S_ .f32 := constant S_ .f32 0x2B8CBCCC#32
  let main_v67 : FVec F S524288x64 .f32 := broadcastInDim S524288x64 ![] bcast_S_S524288x64 main_cst_17
  let main_v68 : FVec F S524288x64 .f32 := addf main_v29 main_v67
  let main_v69 : FVec F S524288x64 .f32 := Host.log main_v68
  let main_v70 : FVec F S524288x64 .f32 := addf main_v66 main_v69
  let main_cst_18 : FVec F S_ .f32 := constant S_ .f32 0xFF800000#32
  let main_v71 : FVec F S524288 .f32 := (fun x v => Host.reduce FloatOps.maximumf x v reducesTo_S524288x64_S524288_d1 h_S_) main_v70 main_cst_18
  let main_v72 : FVec F S524288x1 .f32 := broadcastInDim S524288x1 ![0] bcast_S524288_S524288x1_0 main_v71
  let main_v73 : FVec F S524288x64 .f32 := broadcastInDim S524288x64 ![0, 1] bcast_S524288x1_S524288x64_0_1 main_v72
  fn_part4 (F := F) main_v5 main_v9 main_v70 main_v73

def fn_part2 {F : FTy → Type} [FloatOps F] (main_v5 : IVec S_ 1) (main_v9 : IVec S_ 1) (main_v29 : FVec F S524288x64 .f32) (main_v32 : IVec S1 32) (main_v35 : IVec S1 32) : IVec S_ 1 :=
  let main_v36 : IVec S2 32 := (fun a b => concatenate S2 0 [⟨S1, a⟩, ⟨S1, b⟩] concatenates_S1_S1_S2_d0) main_v32 main_v35
  let main_v37 : IVec S1 32 := (extractStridedSlice S1 ![0] · slices_S2_S1_0) main_v36
  let main_v38 : IVec S_ 32 := shapeCast S_ main_v37 shapeCasts_S1_S_
  let main_v39 : IVec S1 32 := (extractStridedSlice S1 ![1] · slices_S2_S1_1) main_v36
  let main_v40 : IVec S_ 32 := shapeCast S_ main_v39 shapeCasts_S1_S_
  let main_v41 : IVec S524288x64 64 := iotaInDim S524288x64 64 0
  let main_v42 : IVec S524288x64 64 := iotaInDim S524288x64 64 1
  let main_c_10 : IVec S_ 64 := constantI S_ 64 64#64
  let main_v43 : IVec S524288x64 64 := broadcastInDim S524288x64 ![] bcast_S_S524288x64 main_c_10
  let main_v44 : IVec S524288x64 64 := muli main_v43 main_v41
  let main_c_11 : IVec S_ 64 := constantI S_ 64 1#64
  let main_v45 : IVec S524288x64 64 := broadcastInDim S524288x64 ![] bcast_S_S524288x64 main_c_11
  let main_v46 : IVec S524288x64 64 := muli main_v45 main_v42
  let main_v47 : IVec S524288x64 64 := addi main_v44 main_v46
  let main_c_12 : IVec S_ 64 := constantI S_ 64 32#64
  let main_v48 : IVec S524288x64 64 := broadcastInDim S524288x64 ![] bcast_S_S524288x64 main_c_12
  let main_v49 : IVec S524288x64 64 := Host.shrui main_v47 main_v48
  let main_v50 : IVec S524288x64 32 := (trunci 32 · natLt_32_64) main_v47
  let main_v51 : IVec S524288x64 32 := (trunci 32 · natLt_32_64) main_v49
  let main_v52_0 : IVec S524288x64 32 := (fn_threefry2x32 (F := F) main_v38 main_v40 main_v51 main_v50).1
  let main_v52_1 : IVec S524288x64 32 := (fn_threefry2x32 (F := F) main_v38 main_v40 main_v51 main_v50).2
  let main_v53 : IVec S524288x64 32 := xori main_v52_0 main_v52_1
  let main_c_13 : IVec S_ 32 := constantI S_ 32 9#32
  let main_v54 : IVec S524288x64 32 := broadcastInDim S524288x64 ![] bcast_S_S524288x64 main_c_13
  fn_part3 (F := F) main_v5 main_v9 main_v29 main_v53 main_v54

def fn_part1 {F : FTy → Type} [FloatOps F] (main_arg0 : IVec S524288x1 32) (main_arg1 : FVec F S64x64 .f32) (main_v5 : IVec S_ 1) (main_v9 : IVec S_ 1) (main_v14 : FVec F S_ .f32) (main_v15 : IVec S64x64 32) (main_v16 : IVec S64x64 32) : IVec S_ 1 :=
  let main_c_5 : IVec S_ 32 := constantI S_ 32 0#32
  let main_v17 : IVec S64x64 32 := broadcastInDim S64x64 ![] bcast_S_S64x64 main_c_5
  let main_v18 : IVec S64x64 32 := addi main_v15 main_v17
  let main_v19 : IVec S64x64 1 := cmpi .eq main_v18 main_v16
  let main_v20 : FVec F S64x64 .f32 := uitofp .f32 main_v19
  let main_v21 : FVec F S64x64 .f32 := broadcastInDim S64x64 ![] bcast_S_S64x64 main_v14
  let main_v22 : FVec F S64x64 .f32 := mulf main_v21 main_v20
  let main_cst_6 : FVec F S_ .f32 := constant S_ .f32 0x3F800000#32
  let main_v23 : FVec F S_ .f32 := subf main_cst_6 main_v14
  let main_v24 : FVec F S64x64 .f32 := broadcastInDim S64x64 ![] bcast_S_S64x64 main_v23
  let main_v25 : FVec F S64x64 .f32 := mulf main_v24 main_arg1
  let main_v26 : FVec F S64x64 .f32 := addf main_v22 main_v25
  let main_v27 : IVec S524288 32 := shapeCast S524288 main_arg0 shapeCasts_S524288x1_S524288
  let main_v28 : FVec F S524288x64 .f32 := fn_one_hot (F := F) main_v27
  let main_v29 : FVec F S524288x64 .f32 := (fun l r => Host.dotGeneral dot_S524288x64_S64x64_S524288x64_1_0_0_1_n_n none l r) main_v28 main_v26
  let main_c_7 : IVec S_ 32 := constantI S_ 32 42#32
  let main_c_8 : IVec S_ 32 := constantI S_ 32 32#32
  let main_v30 : IVec S_ 32 := Host.shrui main_c_7 main_c_8
  let main_v31 : IVec S_ 32 := id main_v30
  let main_v32 : IVec S1 32 := broadcastInDim S1 ![] bcast_S_S1 main_v31
  let main_c_9 : IVec S_ 32 := constantI S_ 32 4294967295#32
  let main_v33 : IVec S_ 32 := andi main_c_7 main_c_9
  let main_v34 : IVec S_ 32 := id main_v33
  let main_v35 : IVec S1 32 := broadcastInDim S1 ![] bcast_S_S1 main_v34
  fn_part2 (F := F) main_v5 main_v9 main_v29 main_v32 main_v35

def fn {F : FTy → Type} [FloatOps F] (main_arg0 : IVec S524288x1 32) (main_arg1 : FVec F S64x64 .f32) (main_arg2 : IVec S_ 32) : IVec S_ 1 :=
  let main_cst : FVec F S1001 .f32 := fun i => FloatOps.ofBits .f32 (lit0 (S1001.rowMajor i))
  let main_c : IVec S_ 32 := constantI S_ 32 0#32
  let main_v0 : IVec S524288x1 32 := broadcastInDim S524288x1 ![] bcast_S_S524288x1 main_c
  let main_v1 : IVec S524288x1 1 := cmpi .sge main_arg0 main_v0
  let main_c_0 : IVec S_ 32 := constantI S_ 32 64#32
  let main_v2 : IVec S524288x1 32 := broadcastInDim S524288x1 ![] bcast_S_S524288x1 main_c_0
  let main_v3 : IVec S524288x1 1 := cmpi .slt main_arg0 main_v2
  let main_v4 : IVec S524288x1 1 := andi main_v1 main_v3
  let main_c_1 : IVec S_ 1 := constantI S_ 1 1#1
  let main_v5 : IVec S_ 1 := (fun x v => Host.reduce IntOp.andi x v reducesTo_S524288x1_S_d0_1 h_S_) main_v4 main_c_1
  let main_v6 : FVec F S1x1 .f32 := (extractStridedSlice S1x1 ![0, 0] · slices_S64x64_S1x1_0_0) main_arg1
  let main_v7 : FVec F S64x64 .f32 := broadcastInDim S64x64 ![0, 1] bcast_S1x1_S64x64_0_1 main_v6
  let main_v8 : IVec S64x64 1 := cmpf .oeq main_arg1 main_v7
  let main_c_2 : IVec S_ 1 := constantI S_ 1 1#1
  let main_v9 : IVec S_ 1 := (fun x v => Host.reduce IntOp.andi x v reducesTo_S64x64_S_d0_1 h_S_) main_v8 main_c_2
  let main_c_3 : IVec S_ 32 := constantI S_ 32 0#32
  let main_v10 : IVec S_ 1 := cmpi .slt main_arg2 main_c_3
  let main_c_4 : IVec S_ 32 := constantI S_ 32 1001#32
  let main_v11 : IVec S_ 32 := addi main_arg2 main_c_4
  let main_v12 : IVec S_ 32 := select main_v10 main_v11 main_arg2
  let main_v13 : FVec F S1 .f32 := (fun x i => Host.dynamicSlice S1 x (fun k => (i k (Shape.Idx.first h_S_)).toInt) sliceFits_S1001_S1) main_cst (![main_v12] : Fin 1 → IVec S_ 32)
  let main_v14 : FVec F S_ .f32 := shapeCast S_ main_v13 shapeCasts_S1_S_
  let main_v15 : IVec S64x64 32 := iotaInDim S64x64 32 0
  let main_v16 : IVec S64x64 32 := iotaInDim S64x64 32 1
  fn_part1 (F := F) main_arg0 main_arg1 main_v5 main_v9 main_v14 main_v15 main_v16
-- ==== Kernel.lean ====
abbrev S524288x1 : Shape := ⟨2, ![524288, 1]⟩
abbrev S64x64 : Shape := ⟨2, ![64, 64]⟩
abbrev S_ : Shape := ⟨0, ![]⟩
abbrev S1001 : Shape := ⟨1, ![1001]⟩
abbrev S1 : Shape := ⟨1, ![1]⟩
abbrev S64x64x1 : Shape := ⟨3, ![64, 64, 1]⟩
abbrev S1x64x64 : Shape := ⟨3, ![1, 64, 64]⟩
abbrev S64x64x64 : Shape := ⟨3, ![64, 64, 64]⟩
abbrev S64x128 : Shape := ⟨2, ![64, 128]⟩
abbrev S128x128 : Shape := ⟨2, ![128, 128]⟩
abbrev S262144x2 : Shape := ⟨2, ![262144, 2]⟩
abbrev S8192x2 : Shape := ⟨2, ![8192, 2]⟩
abbrev S8192x128 : Shape := ⟨2, ![8192, 128]⟩
abbrev S8192x1 : Shape := ⟨2, ![8192, 1]⟩
abbrev S1x1 : Shape := ⟨2, ![1, 1]⟩
abbrev S8192x64 : Shape := ⟨2, ![8192, 64]⟩
abbrev S8192 : Shape := ⟨1, ![8192]⟩

abbrev nBuf : Space → Nat
  | .hbm => 44
  | .vmem => 6
  | .smem => 0
  | _ => 0

abbrev bufTy : (tb : Table) → Fin (tcTables nBuf tb) → BufTy
  | .hbm, ⟨0, _⟩ => ⟨S524288x1, .i32⟩
  | .hbm, ⟨1, _⟩ => ⟨S64x64, .f32⟩
  | .hbm, ⟨2, _⟩ => ⟨S_, .i32⟩
  | .hbm, ⟨3, _⟩ => ⟨S1001, .f32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .f32⟩
  | .hbm, ⟨10, _⟩ => ⟨S_, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64x1, .f32⟩
  | .hbm, ⟨26, _⟩ => ⟨S1x64x64, .f32⟩
  | .hbm, ⟨27, _⟩ => ⟨S64x64x64, .f32⟩
  | .hbm, ⟨28, _⟩ => ⟨S64x64x64, .f32⟩
  | .hbm, ⟨29, _⟩ => ⟨S64x64x64, .f32⟩
  | .hbm, ⟨30, _⟩ => ⟨S_, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x128, .f32⟩
  | .hbm, ⟨39, _⟩ => ⟨S64x128, .f32⟩
  | .hbm, ⟨40, _⟩ => ⟨S128x128, .f32⟩
  | .hbm, ⟨41, _⟩ => ⟨S262144x2, .i32⟩
  | .hbm, ⟨42, _⟩ => ⟨S262144x2, .i32⟩
  | .hbm, ⟨43, _⟩ => ⟨S524288x1, .i32⟩
  | .local _ .vmem, ⟨0, _⟩ => ⟨S8192x2, .i32⟩
  | .local _ .vmem, ⟨1, _⟩ => ⟨S8192x2, .i32⟩
  | .local _ .vmem, ⟨2, _⟩ => ⟨S128x128, .f32⟩
  | .local _ .vmem, ⟨3, _⟩ => ⟨S8192x2, .i32⟩
  | .local _ .vmem, ⟨4, _⟩ => ⟨S8192x2, .i32⟩
  | .local _ .vmem, ⟨5, _⟩ => ⟨S8192x128, .i32⟩
  | _, _ => ⟨S524288x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S524288x1 : Shape := ⟨2, ![524288, 1]⟩
abbrev S64x64 : Shape := ⟨2, ![64, 64]⟩
abbrev S_ : Shape := ⟨0, ![]⟩
abbrev S1001 : Shape := ⟨1, ![1001]⟩
abbrev S1 : Shape := ⟨1, ![1]⟩
abbrev S524288 : Shape := ⟨1, ![524288]⟩
abbrev S1x64 : Shape := ⟨2, ![1, 64]⟩
abbrev S524288x64 : Shape := ⟨2, ![524288, 64]⟩
abbrev S2 : Shape := ⟨1, ![2]⟩

abbrev nBuf : Space → Nat
  | .hbm => 313
  | .vmem => 0
  | .smem => 0
  | _ => 0

abbrev hbmTy0_0 (i : Nat) : BufTy := match i % 128 with
  | 0 => ⟨S524288x1, .i32⟩
  | 1 => ⟨S64x64, .f32⟩
  | 2 => ⟨S_, .i32⟩
  | 3 => ⟨S1001, .f32⟩
  | 4 => ⟨S_, .i32⟩
  | 5 => ⟨S_, .i1⟩
  | 6 => ⟨S_, .i32⟩
  | 7 => ⟨S_, .i32⟩
  | 8 => ⟨S_, .i32⟩
  | 9 => ⟨S1, .f32⟩
  | 10 => ⟨S_, .f32⟩
  | 11 => ⟨S64x64, .i32⟩
  | 12 => ⟨S64x64, .i32⟩
  | 13 => ⟨S_, .i32⟩
  | 14 => ⟨S64x64, .i32⟩
  | 15 => ⟨S64x64, .i32⟩
  | 16 => ⟨S64x64, .i1⟩
  | 17 => ⟨S64x64, .f32⟩
  | 18 => ⟨S64x64, .f32⟩
  | 19 => ⟨S64x64, .f32⟩
  | 20 => ⟨S_, .f32⟩
  | 21 => ⟨S_, .f32⟩
  | 22 => ⟨S64x64, .f32⟩
  | 23 => ⟨S64x64, .f32⟩
  | 24 => ⟨S64x64, .f32⟩
  | 25 => ⟨S524288, .i32⟩
  | 26 => ⟨S524288x1, .i32⟩
  | 27 => ⟨S1x64, .i32⟩
  | 28 => ⟨S524288x64, .i32⟩
  | 29 => ⟨S524288x64, .i32⟩
  | 30 => ⟨S524288x64, .i1⟩
  | 31 => ⟨S524288x64, .f32⟩
  | 32 => ⟨S524288x64, .f32⟩
  | 33 => ⟨S_, .i32⟩
  | 34 => ⟨S_, .i32⟩
  | 35 => ⟨S_, .i32⟩
  | 36 => ⟨S_, .i32⟩
  | 37 => ⟨S1, .i32⟩
  | 38 => ⟨S_, .i32⟩
  | 39 => ⟨S_, .i32⟩
  | 40 => ⟨S_, .i32⟩
  | 41 => ⟨S1, .i32⟩
  | 42 => ⟨S2, .i32⟩
  | 43 => ⟨S1, .i32⟩
  | 44 => ⟨S_, .i32⟩
  | 45 => ⟨S1, .i32⟩
  | 46 => ⟨S_, .i32⟩
  | 47 => ⟨S524288x64, .i64⟩
  | 48 => ⟨S524288x64, .i64⟩
  | 49 => ⟨S_, .i64⟩
  | 50 => ⟨S524288x64, .i64⟩
  | 51 => ⟨S524288x64, .i64⟩
  | 52 => ⟨S_, .i64⟩
  | 53 => ⟨S524288x64, .i64⟩
  | 54 => ⟨S524288x64, .i64⟩
  | 55 => ⟨S524288x64, .i64⟩
  | 56 => ⟨S_, .i64⟩
  | 57 => ⟨S524288x64, .i64⟩
  | 58 => ⟨S524288x64, .i64⟩
  | 59 => ⟨S524288x64, .i32⟩
  | 60 => ⟨S524288x64, .i32⟩
  | 61 => ⟨S_, .i32⟩
  | 62 => ⟨S_, .i32⟩
  | 63 => ⟨S_, .i32⟩
  | 64 => ⟨S524288x64, .i32⟩
  | 65 => ⟨S524288x64, .i32⟩
  | 66 => ⟨S524288x64, .i32⟩
  | 67 => ⟨S524288x64, .i32⟩
  | 68 => ⟨S524288x64, .i32⟩
  | 69 => ⟨S_, .i32⟩
  | 70 => ⟨S524288x64, .i32⟩
  | 71 => ⟨S524288x64, .i32⟩
  | 72 => ⟨S_, .i32⟩
  | 73 => ⟨S524288x64, .i32⟩
  | 74 => ⟨S524288x64, .i32⟩
  | 75 => ⟨S524288x64, .i32⟩
  | 76 => ⟨S524288x64, .i32⟩
  | 77 => ⟨S524288x64, .i32⟩
  | 78 => ⟨S_, .i32⟩
  | 79 => ⟨S524288x64, .i32⟩
  | 80 => ⟨S524288x64, .i32⟩
  | 81 => ⟨S_, .i32⟩
  | 82 => ⟨S524288x64, .i32⟩
  | 83 => ⟨S524288x64, .i32⟩
  | 84 => ⟨S524288x64, .i32⟩
  | 85 => ⟨S524288x64, .i32⟩
  | 86 => ⟨S524288x64, .i32⟩
  | 87 => ⟨S_, .i32⟩
  | 88 => ⟨S524288x64, .i32⟩
  | 89 => ⟨S524288x64, .i32⟩
  | 90 => ⟨S_, .i32⟩
  | 91 => ⟨S524288x64, .i32⟩
  | 92 => ⟨S524288x64, .i32⟩
  | 93 => ⟨S524288x64, .i32⟩
  | 94 => ⟨S524288x64, .i32⟩
  | 95 => ⟨S524288x64, .i32⟩
  | 96 => ⟨S_, .i32⟩
  | 97 => ⟨S524288x64, .i32⟩
  | 98 => ⟨S524288x64, .i32⟩
  | 99 => ⟨S_, .i32⟩
  | 100 => ⟨S524288x64, .i32⟩
  | 101 => ⟨S524288x64, .i32⟩
  | 102 => ⟨S524288x64, .i32⟩
  | 103 => ⟨S524288x64, .i32⟩
  | 104 => ⟨S524288x64, .i32⟩
  | 105 => ⟨S524288x64, .i32⟩
  | 106 => ⟨S524288x64, .i32⟩
  | 107 => ⟨S524288x64, .i32⟩
  | 108 => ⟨S_, .i32⟩
  | 109 => ⟨S524288x64, .i32⟩
  | 110 => ⟨S524288x64, .i32⟩
  | 111 => ⟨S524288x64, .i32⟩
  | 112 => ⟨S_, .i32⟩
  | 113 => ⟨S524288x64, .i32⟩
  | 114 => ⟨S524288x64, .i32⟩
  | 115 => ⟨S_, .i32⟩
  | 116 => ⟨S524288x64, .i32⟩
  | 117 => ⟨S524288x64, .i32⟩
  | 118 => ⟨S524288x64, .i32⟩
  | 119 => ⟨S524288x64, .i32⟩
  | 120 => ⟨S524288x64, .i32⟩
  | 121 => ⟨S_, .i32⟩
  | 122 => ⟨S524288x64, .i32⟩
  | 123 => ⟨S524288x64, .i32⟩
  | 124 => ⟨S_, .i32⟩
  | 125 => ⟨S524288x64, .i32⟩
  | 126 => ⟨S524288x64, .i32⟩
  | 127 => ⟨S524288x64, .i32⟩
  | _ => ⟨S524288x1, .i32⟩

abbrev hbmTy0_1 (i : Nat) : BufTy := match i % 128 with
  | 0 => ⟨S524288x64, .i32⟩
  | 1 => ⟨S524288x64, .i32⟩
  | 2 => ⟨S_, .i32⟩
  | 3 => ⟨S524288x64, .i32⟩
  | 4 => ⟨S524288x64, .i32⟩
  | 5 => ⟨S_, .i32⟩
  | 6 => ⟨S524288x64, .i32⟩
  | 7 => ⟨S524288x64, .i32⟩
  | 8 => ⟨S524288x64, .i32⟩
  | 9 => ⟨S524288x64, .i32⟩
  | 10 => ⟨S524288x64, .i32⟩
  | 11 => ⟨S_, .i32⟩
  | 12 => ⟨S524288x64, .i32⟩
  | 13 => ⟨S524288x64, .i32⟩
  | 14 => ⟨S_, .i32⟩
  | 15 => ⟨S524288x64, .i32⟩
  | 16 => ⟨S524288x64, .i32⟩
  | 17 => ⟨S524288x64, .i32⟩
  | 18 => ⟨S524288x64, .i32⟩
  | 19 => ⟨S524288x64, .i32⟩
  | 20 => ⟨S524288x64, .i32⟩
  | 21 => ⟨S524288x64, .i32⟩
  | 22 => ⟨S524288x64, .i32⟩
  | 23 => ⟨S_, .i32⟩
  | 24 => ⟨S524288x64, .i32⟩
  | 25 => ⟨S524288x64, .i32⟩
  | 26 => ⟨S524288x64, .i32⟩
  | 27 => ⟨S_, .i32⟩
  | 28 => ⟨S524288x64, .i32⟩
  | 29 => ⟨S524288x64, .i32⟩
  | 30 => ⟨S_, .i32⟩
  | 31 => ⟨S524288x64, .i32⟩
  | 32 => ⟨S524288x64, .i32⟩
  | 33 => ⟨S524288x64, .i32⟩
  | 34 => ⟨S524288x64, .i32⟩
  | 35 => ⟨S524288x64, .i32⟩
  | 36 => ⟨S_, .i32⟩
  | 37 => ⟨S524288x64, .i32⟩
  | 38 => ⟨S524288x64, .i32⟩
  | 39 => ⟨S_, .i32⟩
  | 40 => ⟨S524288x64, .i32⟩
  | 41 => ⟨S524288x64, .i32⟩
  | 42 => ⟨S524288x64, .i32⟩
  | 43 => ⟨S524288x64, .i32⟩
  | 44 => ⟨S524288x64, .i32⟩
  | 45 => ⟨S_, .i32⟩
  | 46 => ⟨S524288x64, .i32⟩
  | 47 => ⟨S524288x64, .i32⟩
  | 48 => ⟨S_, .i32⟩
  | 49 => ⟨S524288x64, .i32⟩
  | 50 => ⟨S524288x64, .i32⟩
  | 51 => ⟨S524288x64, .i32⟩
  | 52 => ⟨S524288x64, .i32⟩
  | 53 => ⟨S524288x64, .i32⟩
  | 54 => ⟨S_, .i32⟩
  | 55 => ⟨S524288x64, .i32⟩
  | 56 => ⟨S524288x64, .i32⟩
  | 57 => ⟨S_, .i32⟩
  | 58 => ⟨S524288x64, .i32⟩
  | 59 => ⟨S524288x64, .i32⟩
  | 60 => ⟨S524288x64, .i32⟩
  | 61 => ⟨S524288x64, .i32⟩
  | 62 => ⟨S524288x64, .i32⟩
  | 63 => ⟨S524288x64, .i32⟩
  | 64 => ⟨S524288x64, .i32⟩
  | 65 => ⟨S524288x64, .i32⟩
  | 66 => ⟨S_, .i32⟩
  | 67 => ⟨S524288x64, .i32⟩
  | 68 => ⟨S524288x64, .i32⟩
  | 69 => ⟨S524288x64, .i32⟩
  | 70 => ⟨S_, .i32⟩
  | 71 => ⟨S524288x64, .i32⟩
  | 72 => ⟨S524288x64, .i32⟩
  | 73 => ⟨S_, .i32⟩
  | 74 => ⟨S524288x64, .i32⟩
  | 75 => ⟨S524288x64, .i32⟩
  | 76 => ⟨S524288x64, .i32⟩
  | 77 => ⟨S524288x64, .i32⟩
  | 78 => ⟨S524288x64, .i32⟩
  | 79 => ⟨S_, .i32⟩
  | 80 => ⟨S524288x64, .i32⟩
  | 81 => ⟨S524288x64, .i32⟩
  | 82 => ⟨S_, .i32⟩
  | 83 => ⟨S524288x64, .i32⟩
  | 84 => ⟨S524288x64, .i32⟩
  | 85 => ⟨S524288x64, .i32⟩
  | 86 => ⟨S524288x64, .i32⟩
  | 87 => ⟨S524288x64, .i32⟩
  | 88 => ⟨S_, .i32⟩
  | 89 => ⟨S524288x64, .i32⟩
  | 90 => ⟨S524288x64, .i32⟩
  | 91 => ⟨S_, .i32⟩
  | 92 => ⟨S524288x64, .i32⟩
  | 93 => ⟨S524288x64, .i32⟩
  | 94 => ⟨S524288x64, .i32⟩
  | 95 => ⟨S524288x64, .i32⟩
  | 96 => ⟨S524288x64, .i32⟩
  | 97 => ⟨S_, .i32⟩
  | 98 => ⟨S524288x64, .i32⟩
  | 99 => ⟨S524288x64, .i32⟩
  | 100 => ⟨S_, .i32⟩
  | 101 => ⟨S524288x64, .i32⟩
  | 102 => ⟨S524288x64, .i32⟩
  | 103 => ⟨S524288x64, .i32⟩
  | 104 => ⟨S524288x64, .i32⟩
  | 105 => ⟨S524288x64, .i32⟩
  | 106 => ⟨S524288x64, .i32⟩
  | 107 => ⟨S524288x64, .i32⟩
  | 108 => ⟨S524288x64, .i32⟩
  | 109 => ⟨S_, .i32⟩
  | 110 => ⟨S524288x64, .i32⟩
  | 111 => ⟨S524288x64, .i32⟩
  | 112 => ⟨S524288x64, .i32⟩
  | 113 => ⟨S_, .i32⟩
  | 114 => ⟨S524288x64, .i32⟩
  | 115 => ⟨S524288x64, .i32⟩
  | 116 => ⟨S_, .i32⟩
  | 117 => ⟨S524288x64, .i32⟩
  | 118 => ⟨S524288x64, .i32⟩
  | 119 => ⟨S524288x64, .i32⟩
  | 120 => ⟨S524288x64, .i32⟩
  | 121 => ⟨S524288x64, .i32⟩
  | 122 => ⟨S_, .i32⟩
  | 123 => ⟨S524288x64, .i32⟩
  | 124 => ⟨S524288x64, .i32⟩
  | 125 => ⟨S_, .i32⟩
  | 126 => ⟨S524288x64, .i32⟩
  | 127 => ⟨S524288x64, .i32⟩
  | _ => ⟨S524288x1, .i32⟩

abbrev hbmTy0_2 (i : Nat) : BufTy := match i % 128 with
  | 0 => ⟨S524288x64, .i32⟩
  | 1 => ⟨S524288x64, .i32⟩
  | 2 => ⟨S524288x64, .i32⟩
  | 3 => ⟨S_, .i32⟩
  | 4 => ⟨S524288x64, .i32⟩
  | 5 => ⟨S524288x64, .i32⟩
  | 6 => ⟨S_, .i32⟩
  | 7 => ⟨S524288x64, .i32⟩
  | 8 => ⟨S524288x64, .i32⟩
  | 9 => ⟨S524288x64, .i32⟩
  | 10 => ⟨S524288x64, .i32⟩
  | 11 => ⟨S524288x64, .i32⟩
  | 12 => ⟨S_, .i32⟩
  | 13 => ⟨S524288x64, .i32⟩
  | 14 => ⟨S524288x64, .i32⟩
  | 15 => ⟨S_, .i32⟩
  | 16 => ⟨S524288x64, .i32⟩
  | 17 => ⟨S524288x64, .i32⟩
  | 18 => ⟨S524288x64, .i32⟩
  | 19 => ⟨S524288x64, .i32⟩
  | 20 => ⟨S524288x64, .i32⟩
  | 21 => ⟨S524288x64, .i32⟩
  | 22 => ⟨S524288x64, .i32⟩
  | 23 => ⟨S524288x64, .i32⟩
  | 24 => ⟨S_, .i32⟩
  | 25 => ⟨S524288x64, .i32⟩
  | 26 => ⟨S524288x64, .i32⟩
  | 27 => ⟨S524288x64, .i32⟩
  | 28 => ⟨S_, .i32⟩
  | 29 => ⟨S524288x64, .i32⟩
  | 30 => ⟨S524288x64, .i32⟩
  | 31 => ⟨S524288x64, .i32⟩
  | 32 => ⟨S_, .i32⟩
  | 33 => ⟨S524288x64, .i32⟩
  | 34 => ⟨S524288x64, .i1⟩
  | 35 => ⟨S524288x64, .f32⟩
  | 36 => ⟨S_, .f32⟩
  | 37 => ⟨S524288x64, .f32⟩
  | 38 => ⟨S524288x64, .f32⟩
  | 39 => ⟨S_, .f32⟩
  | 40 => ⟨S524288x64, .f32⟩
  | 41 => ⟨S524288x64, .f32⟩
  | 42 => ⟨S524288x64, .f32⟩
  | 43 => ⟨S524288x64, .f32⟩
  | 44 => ⟨S524288x64, .f32⟩
  | 45 => ⟨S524288x64, .f32⟩
  | 46 => ⟨S_, .f32⟩
  | 47 => ⟨S524288x64, .f32⟩
  | 48 => ⟨S524288x64, .f32⟩
  | 49 => ⟨S524288x64, .f32⟩
  | 50 => ⟨S524288x64, .f32⟩
  | 51 => ⟨S524288x64, .i32⟩
  | 52 => ⟨S_, .f32⟩
  | 53 => ⟨S_, .i32⟩
  | 54 => ⟨S524288, .f32⟩
  | 55 => ⟨S524288, .i32⟩
  | 56 => ⟨S524288x1, .i32⟩
  | _ => ⟨S524288x1, .i32⟩

abbrev hbmTy (i : Nat) : BufTy := match i / 128 with
  | 0 => hbmTy0_0 i
  | 1 => hbmTy0_1 i
  | 2 => hbmTy0_2 i
  | _ => ⟨S524288x1, .i32⟩

abbrev bufTy : (tb : Table) → Fin (tcTables nBuf tb) → BufTy
  | .hbm, ⟨i, _⟩ => hbmTy i
  | _, _ => ⟨S524288x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_c_0 : Ref sig .tc := ⟨.hbm, 69, rfl⟩
abbrev main_call1_v7 : Ref sig .tc := ⟨.hbm, 70, rfl⟩
abbrev main_call1_v8 : Ref sig .tc := ⟨.hbm, 71, rfl⟩
abbrev main_call1_c_1 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_c_2 : Ref sig .tc := ⟨.hbm, 78, rfl⟩
abbrev main_call1_v14 : Ref sig .tc := ⟨.hbm, 79, rfl⟩
abbrev main_call1_v15 : Ref sig .tc := ⟨.hbm, 80, rfl⟩
abbrev main_call1_c_3 : Ref sig .tc := ⟨.hbm, 81, rfl⟩
abbrev main_call1_v16 : Ref sig .tc := ⟨.hbm, 82, rfl⟩
abbrev main_call1_v17 : Ref sig .tc := ⟨.hbm, 83, rfl⟩
abbrev main_call1_v18 : Ref sig .tc := ⟨.hbm, 84, rfl⟩
abbrev main_call1_v19 : Ref sig .tc := ⟨.hbm, 85, rfl⟩
abbrev main_call1_v20 : Ref sig .tc := ⟨.hbm, 86, rfl⟩
abbrev main_call1_c_4 : Ref sig .tc := ⟨.hbm, 87, rfl⟩
abbrev main_call1_v21 : Ref sig .tc := ⟨.hbm, 88, rfl⟩
abbrev main_call1_v22 : Ref sig .tc := ⟨.hbm, 89, rfl⟩
abbrev main_call1_c_5 : Ref sig .tc := ⟨.hbm, 90, rfl⟩
abbrev main_call1_v23 : Ref sig .tc := ⟨.hbm, 91, rfl⟩
abbrev main_call1_v24 : Ref sig .tc := ⟨.hbm, 92, rfl⟩
abbrev main_call1_v25 : Ref sig .tc := ⟨.hbm, 93, rfl⟩
abbrev main_call1_v26 : Ref sig .tc := ⟨.hbm, 94, rfl⟩
abbrev main_call1_v27 : Ref sig .tc := ⟨.hbm, 95, rfl⟩
abbrev main_call1_c_6 : Ref sig .tc := ⟨.hbm, 96, rfl⟩
abbrev main_call1_v28 : Ref sig .tc := ⟨.hbm, 97, rfl⟩
abbrev main_call1_v29 : Ref sig .tc := ⟨.hbm, 98, rfl⟩
abbrev main_call1_c_7 : Ref sig .tc := ⟨.hbm, 99, rfl⟩
abbrev main_call1_v30 : Ref sig .tc := ⟨.hbm, 100, rfl⟩
abbrev main_call1_v31 : Ref sig .tc := ⟨.hbm, 101, rfl⟩
abbrev main_call1_v32 : Ref sig .tc := ⟨.hbm, 102, rfl⟩
abbrev main_call1_v33 : Ref sig .tc := ⟨.hbm, 103, rfl⟩
abbrev main_call1_v34 : Ref sig .tc := ⟨.hbm, 104, rfl⟩
abbrev main_call1_v35 : Ref sig .tc := ⟨.hbm, 105, rfl⟩
abbrev main_call1_v36 : Ref sig .tc := ⟨.hbm, 106, rfl⟩
abbrev main_call1_v37 : Ref sig .tc := ⟨.hbm, 107, rfl⟩
abbrev main_call1_c_8 : Ref sig .tc := ⟨.hbm, 108, rfl⟩
abbrev main_call1_v38 : Ref sig .tc := ⟨.hbm, 109, rfl⟩
abbrev main_call1_v39 : Ref sig .tc := ⟨.hbm, 110, rfl⟩
abbrev main_call1_v40 : Ref sig .tc := ⟨.hbm, 111, rfl⟩
abbrev main_call1_c_9 : Ref sig .tc := ⟨.hbm, 112, rfl⟩
abbrev main_call1_v41 : Ref sig .tc := ⟨.hbm, 113, rfl⟩
abbrev main_call1_v42 : Ref sig .tc := ⟨.hbm, 114, rfl⟩
abbrev main_call1_c_10 : Ref sig .tc := ⟨.hbm, 115, rfl⟩
abbrev main_call1_v43 : Ref sig .tc := ⟨.hbm, 116, rfl⟩
abbrev main_call1_v44 : Ref sig .tc := ⟨.hbm, 117, rfl⟩
abbrev main_call1_v45 : Ref sig .tc := ⟨.hbm, 118, rfl⟩
abbrev main_call1_v46 : Ref sig .tc := ⟨.hbm, 119, rfl⟩
abbrev main_call1_v47 : Ref sig .tc := ⟨.hbm, 120, rfl⟩
abbrev main_call1_c_11 : Ref sig .tc := ⟨.hbm, 121, rfl⟩
abbrev main_call1_v48 : Ref sig .tc := ⟨.hbm, 122, rfl⟩
abbrev main_call1_v49 : Ref sig .tc := ⟨.hbm, 123, rfl⟩
abbrev main_call1_c_12 : Ref sig .tc := ⟨.hbm, 124, rfl⟩
abbrev main_call1_v50 : Ref sig .tc := ⟨.hbm, 125, rfl⟩
abbrev main_call1_v51 : Ref sig .tc := ⟨.hbm, 126, rfl⟩
abbrev main_call1_v52 : Ref sig .tc := ⟨.hbm, 127, rfl⟩
abbrev main_call1_v53 : Ref sig .tc := ⟨.hbm, 128, rfl⟩
abbrev main_call1_v54 : Ref sig .tc := ⟨.hbm, 129, rfl⟩
abbrev main_call1_c_13 : Ref sig .tc := ⟨.hbm, 130, rfl⟩
abbrev main_call1_v55 : Ref sig .tc := ⟨.hbm, 131, rfl⟩
abbrev main_call1_v56 : Ref sig .tc := ⟨.hbm, 132, rfl⟩
abbrev main_call1_c_14 : Ref sig .tc := ⟨.hbm, 133, rfl⟩
abbrev main_call1_v57 : Ref sig .tc := ⟨.hbm, 134, rfl⟩
abbrev main_call1_v58 : Ref sig .tc := ⟨.hbm, 135, rfl⟩
abbrev main_call1_v59 : Ref sig .tc := ⟨.hbm, 136, rfl⟩
abbrev main_call1_v60 : Ref sig .tc := ⟨.hbm, 137, rfl⟩
abbrev main_call1_v61 : Ref sig .tc := ⟨.hbm, 138, rfl⟩
abbrev main_call1_c_15 : Ref sig .tc := ⟨.hbm, 139, rfl⟩
abbrev main_call1_v62 : Ref sig .tc := ⟨.hbm, 140, rfl⟩
abbrev main_call1_v63 : Ref sig .tc := ⟨.hbm, 141, rfl⟩
abbrev main_call1_c_16 : Ref sig .tc := ⟨.hbm, 142, rfl⟩
abbrev main_call1_v64 : Ref sig .tc := ⟨.hbm, 143, rfl⟩
abbrev main_call1_v65 : Ref sig .tc := ⟨.hbm, 144, rfl⟩
abbrev main_call1_v66 : Ref sig .tc := ⟨.hbm, 145, rfl⟩
abbrev main_call1_v67 : Ref sig .tc := ⟨.hbm, 146, rfl⟩
abbrev main_call1_v68 : Ref sig .tc := ⟨.hbm, 147, rfl⟩
abbrev main_call1_v69 : Ref sig .tc := ⟨.hbm, 148, rfl⟩
abbrev main_call1_v70 : Ref sig .tc := ⟨.hbm, 149, rfl⟩
abbrev main_call1_v71 : Ref sig .tc := ⟨.hbm, 150, rfl⟩
abbrev main_call1_c_17 : Ref sig .tc := ⟨.hbm, 151, rfl⟩
abbrev main_call1_v72 : Ref sig .tc := ⟨.hbm, 152, rfl⟩
abbrev main_call1_v73 : Ref sig .tc := ⟨.hbm, 153, rfl⟩
abbrev main_call1_v74 : Ref sig .tc := ⟨.hbm, 154, rfl⟩
abbrev main_call1_c_18 : Ref sig .tc := ⟨.hbm, 155, rfl⟩
abbrev main_call1_v75 : Ref sig .tc := ⟨.hbm, 156, rfl⟩
abbrev main_call1_v76 : Ref sig .tc := ⟨.hbm, 157, rfl⟩
abbrev main_call1_c_19 : Ref sig .tc := ⟨.hbm, 158, rfl⟩
abbrev main_call1_v77 : Ref sig .tc := ⟨.hbm, 159, rfl⟩
abbrev main_call1_v78 : Ref sig .tc := ⟨.hbm, 160, rfl⟩
abbrev main_call1_v79 : Ref sig .tc := ⟨.hbm, 161, rfl⟩
abbrev main_call1_v80 : Ref sig .tc := ⟨.hbm, 162, rfl⟩
abbrev main_call1_v81 : Ref sig .tc := ⟨.hbm, 163, rfl⟩
abbrev main_call1_c_20 : Ref sig .tc := ⟨.hbm, 164, rfl⟩
abbrev main_call1_v82 : Ref sig .tc := ⟨.hbm, 165, rfl⟩
abbrev main_call1_v83 : Ref sig .tc := ⟨.hbm, 166, rfl⟩
abbrev main_call1_c_21 : Ref sig .tc := ⟨.hbm, 167, rfl⟩
abbrev main_call1_v84 : Ref sig .tc := ⟨.hbm, 168, rfl⟩
abbrev main_call1_v85 : Ref sig .tc := ⟨.hbm, 169, rfl⟩
abbrev main_call1_v86 : Ref sig .tc := ⟨.hbm, 170, rfl⟩
abbrev main_call1_v87 : Ref sig .tc := ⟨.hbm, 171, rfl⟩
abbrev main_call1_v88 : Ref sig .tc := ⟨.hbm, 172, rfl⟩
abbrev main_call1_c_22 : Ref sig .tc := ⟨.hbm, 173, rfl⟩
abbrev main_call1_v89 : Ref sig .tc := ⟨.hbm, 174, rfl⟩
abbrev main_call1_v90 : Ref sig .tc := ⟨.hbm, 175, rfl⟩
abbrev main_call1_c_23 : Ref sig .tc := ⟨.hbm, 176, rfl⟩
abbrev main_call1_v91 : Ref sig .tc := ⟨.hbm, 177, rfl⟩
abbrev main_call1_v92 : Ref sig .tc := ⟨.hbm, 178, rfl⟩
abbrev main_call1_v93 : Ref sig .tc := ⟨.hbm, 179, rfl⟩
abbrev main_call1_v94 : Ref sig .tc := ⟨.hbm, 180, rfl⟩
abbrev main_call1_v95 : Ref sig .tc := ⟨.hbm, 181, rfl⟩
abbrev main_call1_c_24 : Ref sig .tc := ⟨.hbm, 182, rfl⟩
abbrev main_call1_v96 : Ref sig .tc := ⟨.hbm, 183, rfl⟩
abbrev main_call1_v97 : Ref sig .tc := ⟨.hbm, 184, rfl⟩
abbrev main_call1_c_25 : Ref sig .tc := ⟨.hbm, 185, rfl⟩
abbrev main_call1_v98 : Ref sig .tc := ⟨.hbm, 186, rfl⟩
abbrev main_call1_v99 : Ref sig .tc := ⟨.hbm, 187, rfl⟩
abbrev main_call1_v100 : Ref sig .tc := ⟨.hbm, 188, rfl⟩
abbrev main_call1_v101 : Ref sig .tc := ⟨.hbm, 189, rfl⟩
abbrev main_call1_v102 : Ref sig .tc := ⟨.hbm, 190, rfl⟩
abbrev main_call1_v103 : Ref sig .tc := ⟨.hbm, 191, rfl⟩
abbrev main_call1_v104 : Ref sig .tc := ⟨.hbm, 192, rfl⟩
abbrev main_call1_v105 : Ref sig .tc := ⟨.hbm, 193, rfl⟩
abbrev main_call1_c_26 : Ref sig .tc := ⟨.hbm, 194, rfl⟩
abbrev main_call1_v106 : Ref sig .tc := ⟨.hbm, 195, rfl⟩
abbrev main_call1_v107 : Ref sig .tc := ⟨.hbm, 196, rfl⟩
abbrev main_call1_v108 : Ref sig .tc := ⟨.hbm, 197, rfl⟩
abbrev main_call1_c_27 : Ref sig .tc := ⟨.hbm, 198, rfl⟩
abbrev main_call1_v109 : Ref sig .tc := ⟨.hbm, 199, rfl⟩
abbrev main_call1_v110 : Ref sig .tc := ⟨.hbm, 200, rfl⟩
abbrev main_call1_c_28 : Ref sig .tc := ⟨.hbm, 201, rfl⟩
abbrev main_call1_v111 : Ref sig .tc := ⟨.hbm, 202, rfl⟩
abbrev main_call1_v112 : Ref sig .tc := ⟨.hbm, 203, rfl⟩
abbrev main_call1_v113 : Ref sig .tc := ⟨.hbm, 204, rfl⟩
abbrev main_call1_v114 : Ref sig .tc := ⟨.hbm, 205, rfl⟩
abbrev main_call1_v115 : Ref sig .tc := ⟨.hbm, 206, rfl⟩
abbrev main_call1_c_29 : Ref sig .tc := ⟨.hbm, 207, rfl⟩
abbrev main_call1_v116 : Ref sig .tc := ⟨.hbm, 208, rfl⟩
abbrev main_call1_v117 : Ref sig .tc := ⟨.hbm, 209, rfl⟩
abbrev main_call1_c_30 : Ref sig .tc := ⟨.hbm, 210, rfl⟩
abbrev main_call1_v118 : Ref sig .tc := ⟨.hbm, 211, rfl⟩
abbrev main_call1_v119 : Ref sig .tc := ⟨.hbm, 212, rfl⟩
abbrev main_call1_v120 : Ref sig .tc := ⟨.hbm, 213, rfl⟩
abbrev main_call1_v121 : Ref sig .tc := ⟨.hbm, 214, rfl⟩
abbrev main_call1_v122 : Ref sig .tc := ⟨.hbm, 215, rfl⟩
abbrev main_call1_c_31 : Ref sig .tc := ⟨.hbm, 216, rfl⟩
abbrev main_call1_v123 : Ref sig .tc := ⟨.hbm, 217, rfl⟩
abbrev main_call1_v124 : Ref sig .tc := ⟨.hbm, 218, rfl⟩
abbrev main_call1_c_32 : Ref sig .tc := ⟨.hbm, 219, rfl⟩
abbrev main_call1_v125 : Ref sig .tc := ⟨.hbm, 220, rfl⟩
abbrev main_call1_v126 : Ref sig .tc := ⟨.hbm, 221, rfl⟩
abbrev main_call1_v127 : Ref sig .tc := ⟨.hbm, 222, rfl⟩
abbrev main_call1_v128 : Ref sig .tc := ⟨.hbm, 223, rfl⟩
abbrev main_call1_v129 : Ref sig .tc := ⟨.hbm, 224, rfl⟩
abbrev main_call1_c_33 : Ref sig .tc := ⟨.hbm, 225, rfl⟩
abbrev main_call1_v130 : Ref sig .tc := ⟨.hbm, 226, rfl⟩
abbrev main_call1_v131 : Ref sig .tc := ⟨.hbm, 227, rfl⟩
abbrev main_call1_c_34 : Ref sig .tc := ⟨.hbm, 228, rfl⟩
abbrev main_call1_v132 : Ref sig .tc := ⟨.hbm, 229, rfl⟩
abbrev main_call1_v133 : Ref sig .tc := ⟨.hbm, 230, rfl⟩
abbrev main_call1_v134 : Ref sig .tc := ⟨.hbm, 231, rfl⟩
abbrev main_call1_v135 : Ref sig .tc := ⟨.hbm, 232, rfl⟩
abbrev main_call1_v136 : Ref sig .tc := ⟨.hbm, 233, rfl⟩
abbrev main_call1_v137 : Ref sig .tc := ⟨.hbm, 234, rfl⟩
abbrev main_call1_v138 : Ref sig .tc := ⟨.hbm, 235, rfl⟩
abbrev main_call1_v139 : Ref sig .tc := ⟨.hbm, 236, rfl⟩
abbrev main_call1_c_35 : Ref sig .tc := ⟨.hbm, 237, rfl⟩
abbrev main_call1_v140 : Ref sig .tc := ⟨.hbm, 238, rfl⟩
abbrev main_call1_v141 : Ref sig .tc := ⟨.hbm, 239, rfl⟩
abbrev main_call1_v142 : Ref sig .tc := ⟨.hbm, 240, rfl⟩
abbrev main_call1_c_36 : Ref sig .tc := ⟨.hbm, 241, rfl⟩
abbrev main_call1_v143 : Ref sig .tc := ⟨.hbm, 242, rfl⟩
abbrev main_call1_v144 : Ref sig .tc := ⟨.hbm, 243, rfl⟩
abbrev main_call1_c_37 : Ref sig .tc := ⟨.hbm, 244, rfl⟩
abbrev main_call1_v145 : Ref sig .tc := ⟨.hbm, 245, rfl⟩
abbrev main_call1_v146 : Ref sig .tc := ⟨.hbm, 246, rfl⟩
abbrev main_call1_v147 : Ref sig .tc := ⟨.hbm, 247, rfl⟩
abbrev main_call1_v148 : Ref sig .tc := ⟨.hbm, 248, rfl⟩
abbrev main_call1_v149 : Ref sig .tc := ⟨.hbm, 249, rfl⟩
abbrev main_call1_c_38 : Ref sig .tc := ⟨.hbm, 250, rfl⟩
abbrev main_call1_v150 : Ref sig .tc := ⟨.hbm, 251, rfl⟩
abbrev main_call1_v151 : Ref sig .tc := ⟨.hbm, 252, rfl⟩
abbrev main_call1_c_39 : Ref sig .tc := ⟨.hbm, 253, rfl⟩
abbrev main_call1_v152 : Ref sig .tc := ⟨.hbm, 254, rfl⟩
abbrev main_call1_v153 : Ref sig .tc := ⟨.hbm, 255, rfl⟩
abbrev main_call1_v154 : Ref sig .tc := ⟨.hbm, 256, rfl⟩
abbrev main_call1_v155 : Ref sig .tc := ⟨.hbm, 257, rfl⟩
abbrev main_call1_v156 : Ref sig .tc := ⟨.hbm, 258, rfl⟩
abbrev main_call1_c_40 : Ref sig .tc := ⟨.hbm, 259, rfl⟩
abbrev main_call1_v157 : Ref sig .tc := ⟨.hbm, 260, rfl⟩
abbrev main_call1_v158 : Ref sig .tc := ⟨.hbm, 261, rfl⟩
abbrev main_call1_c_41 : Ref sig .tc := ⟨.hbm, 262, rfl⟩
abbrev main_call1_v159 : Ref sig .tc := ⟨.hbm, 263, rfl⟩
abbrev main_call1_v160 : Ref sig .tc := ⟨.hbm, 264, rfl⟩
abbrev main_call1_v161 : Ref sig .tc := ⟨.hbm, 265, rfl⟩
abbrev main_call1_v162 : Ref sig .tc := ⟨.hbm, 266, rfl⟩
abbrev main_call1_v163 : Ref sig .tc := ⟨.hbm, 267, rfl⟩
abbrev main_call1_c_42 : Ref sig .tc := ⟨.hbm, 268, rfl⟩
abbrev main_call1_v164 : Ref sig .tc := ⟨.hbm, 269, rfl⟩
abbrev main_call1_v165 : Ref sig .tc := ⟨.hbm, 270, rfl⟩
abbrev main_call1_c_43 : Ref sig .tc := ⟨.hbm, 271, rfl⟩
abbrev main_call1_v166 : Ref sig .tc := ⟨.hbm, 272, rfl⟩
abbrev main_call1_v167 : Ref sig .tc := ⟨.hbm, 273, rfl⟩
abbrev main_call1_v168 : Ref sig .tc := ⟨.hbm, 274, rfl⟩
abbrev main_call1_v169 : Ref sig .tc := ⟨.hbm, 275, rfl⟩
abbrev main_call1_v170 : Ref sig .tc := ⟨.hbm, 276, rfl⟩
abbrev main_v42_0 : Ref sig .tc := ⟨.hbm, 277, rfl⟩
abbrev main_call1_v172 : Ref sig .tc := ⟨.hbm, 278, rfl⟩
abbrev main_call1_v173 : Ref sig .tc := ⟨.hbm, 279, rfl⟩
abbrev main_call1_c_44 : Ref sig .tc := ⟨.hbm, 280, rfl⟩
abbrev main_call1_v174 : Ref sig .tc := ⟨.hbm, 281, rfl⟩
abbrev main_v42_1 : Ref sig .tc := ⟨.hbm, 282, rfl⟩
abbrev main_v43 : Ref sig .tc := ⟨.hbm, 283, rfl⟩
abbrev main_c_9 : Ref sig .tc := ⟨.hbm, 284, rfl⟩
abbrev main_v44 : Ref sig .tc := ⟨.hbm, 285, rfl⟩
abbrev main_v45 : Ref sig .tc := ⟨.hbm, 286, rfl⟩
abbrev main_v46 : Ref sig .tc := ⟨.hbm, 287, rfl⟩
abbrev main_c_10 : Ref sig .tc := ⟨.hbm, 288, rfl⟩
abbrev main_v47 : Ref sig .tc := ⟨.hbm, 289, rfl⟩
abbrev main_v48 : Ref sig .tc := ⟨.hbm, 290, rfl⟩
abbrev main_v49 : Ref sig .tc := ⟨.hbm, 291, rfl⟩
abbrev main_cst_11 : Ref sig .tc := ⟨.hbm, 292, rfl⟩
abbrev main_v50 : Ref sig .tc := ⟨.hbm, 293, rfl⟩
abbrev main_v51 : Ref sig .tc := ⟨.hbm, 294, rfl⟩
abbrev main_cst_12 : Ref sig .tc := ⟨.hbm, 295, rfl⟩
abbrev main_call2_v0 : Ref sig .tc := ⟨.hbm, 296, rfl⟩
abbrev main_v52 : Ref sig .tc := ⟨.hbm, 297, rfl⟩
abbrev main_v53 : Ref sig .tc := ⟨.hbm, 298, rfl⟩
abbrev main_v54 : Ref sig .tc := ⟨.hbm, 299, rfl⟩
abbrev main_v55 : Ref sig .tc := ⟨.hbm, 300, rfl⟩
abbrev main_v56 : Ref sig .tc := ⟨.hbm, 301, rfl⟩
abbrev main_cst_13 : Ref sig .tc := ⟨.hbm, 302, rfl⟩
abbrev main_v57 : Ref sig .tc := ⟨.hbm, 303, rfl⟩
abbrev main_v58 : Ref sig .tc := ⟨.hbm, 304, rfl⟩
abbrev main_v59 : Ref sig .tc := ⟨.hbm, 305, rfl⟩
abbrev main_v60 : Ref sig .tc := ⟨.hbm, 306, rfl⟩
abbrev main_call3_v0 : Ref sig .tc := ⟨.hbm, 307, rfl⟩
abbrev main_call3_cst : Ref sig .tc := ⟨.hbm, 308, rfl⟩
abbrev main_call3_c : Ref sig .tc := ⟨.hbm, 309, rfl⟩
abbrev main_call3_v1_0 : Ref sig .tc := ⟨.hbm, 310, rfl⟩
abbrev main_v61 : Ref sig .tc := ⟨.hbm, 311, rfl⟩
abbrev main_v62 : Ref sig .tc := ⟨.hbm, 312, rfl⟩

abbrev nD : Nat := 1
abbrev τ : Topo := Topo.v7x

variable {F : FTy → Type} [FloatOps F]
-- ==== Proof.RefOps.lean ====
module

public import Idealize.ShloMosaic.Lib.StableHlo.Run
public import Idealize.ShloMosaic.Lib.Quiescent
public import proofs.«01_k».proof.ReferenceIdeal
public import proofs.«01_k».proof.Proof.Gen.ReferenceIdeal

@[expose] public section

noncomputable section

/-! The reference's operations as one straight line, cut where its values are read. -/

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations 1 to 8. -/
abbrev o_alpha : List (HloOp τ sig (Elt F)) :=
  [ nullary main_cst (fun i => FloatOps.ofBits .f32 (lit0 (S1001.rowMajor i))),
    nullary main_c (constantI S_ 32 0#32),
    binary main_arg2 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 1001#32),
    binary main_arg2 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg2 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_cst ![main_v2] ⟨S_, .i32⟩ main_v3 ((fun x i => Host.dynamicSlice S1 x (fun k => (i k (Shape.Idx.first h_S_)).toInt) sliceFits_S1001_S1) : (⟨S1001, .f32⟩ : BufTy).Contents (Elt F) → (Fin 1 → (⟨S_, .i32⟩ : BufTy).Contents (Elt F)) → (⟨S1, .f32⟩ : BufTy).Contents (Elt F)),
    reshape main_v3 main_v4 (rfl : (.f32 : EltTy) = .f32) shapeCasts_S1_S_ ]
/-- Each of them touches the core's own buffers only. -/
theorem o_alpha_sub : (o_alpha : List (HloOp τ sig (Elt F))).Forall fun op => op.bufs ⊆ tcRefs τ sig :=
  ⟨nullary_bufs_sub .., nullary_bufs_sub .., binary_bufs_sub .., nullary_bufs_sub .., binary_bufs_sub .., ternary_bufs_sub .., unaryIndexed_bufs_sub ..,
    reshape_bufs_sub ..⟩
/-- Each of them determines its result. -/
theorem o_alpha_fresh : (o_alpha : List (HloOp τ sig (Elt F))).Forall fun op => op.fresh = ∅ :=
  ⟨rfl, rfl, rfl, rfl, rfl, rfl, rfl, rfl⟩
/-- The buffers they write. -/
abbrev o_alpha_w : List (Ref sig .tc) :=
  [main_cst, main_c, main_v0, main_c_0, main_v1, main_v2, main_v3, main_v4]
theorem o_alpha_writes : (o_alpha : List (HloOp τ sig (Elt F))).map HloOp.writes = o_alpha_w.map fun r => {Proc.devRef (τ := τ) .tc r} := rfl

/-- The reference's operations 9 to 22. -/
abbrev o_table : List (HloOp τ sig (Elt F)) :=
  [ nullary main_v5 (iotaInDim S64x64 32 0),
    nullary main_v6 (iotaInDim S64x64 32 1),
    nullary main_c_1 (constantI S_ 32 0#32),
    unary main_c_1 main_v7 (broadcastInDim S64x64 ![] bcast_S_S64x64 : (⟨S_, .i32⟩ : BufTy).Contents (Elt F) → (⟨S64x64, .i32⟩ : BufTy).Contents (Elt F)),
    binary main_v5 main_v7 main_v8 (addi : (⟨S64x64, .i32⟩ : BufTy).Contents (Elt F) → (⟨S64x64, .i32⟩ : BufTy).Contents (Elt F) → (⟨S64x64, .i32⟩ : BufTy).Contents (Elt F)),
    binary main_v8 main_v6 main_v9 (cmpi .eq : (⟨S64x64, .i32⟩ : BufTy).Contents (Elt F) → (⟨S64x64, .i32⟩ : BufTy).Contents (Elt F) → (⟨S64x64, .i1⟩ : BufTy).Contents (Elt F)),
    unary main_v9 main_v10 (uitofp .f32 : (⟨S64x64, .i1⟩ : BufTy).Contents (Elt F) → (⟨S64x64, .f32⟩ : BufTy).Contents (Elt F)),
    unary main_v4 main_v11 (broadcastInDim S64x64 ![] bcast_S_S64x64 : (⟨S_, .f32⟩ : BufTy).Contents (Elt F) → (⟨S64x64, .f32⟩ : BufTy).Contents (Elt F)),
    binary main_v11 main_v10 main_v12 (mulf : (⟨S64x64, .f32⟩ : BufTy).Contents (Elt F) → (⟨S64x64, .f32⟩ : BufTy).Contents (Elt F) → (⟨S64x64, .f32⟩ : BufTy).Contents (Elt F)),
    nullary main_cst_2 (constant S_ .f32 0x3F800000#32),
    binary main_cst_2 main_v4 main_v13 (subf : (⟨S_, .f32⟩ : BufTy).Contents (Elt F) → (⟨S_, .f32⟩ : BufTy).Contents (Elt F) → (⟨S_, .f32⟩ : BufTy).Contents (Elt F)),
    unary main_v13 main_v14 (broadcastInDim S64x64 ![] bcast_S_S64x64 : (⟨S_, .f32⟩ : BufTy).Contents (Elt F) → (⟨S64x64, .f32⟩ : BufTy).Contents (Elt F)),
    binary main_v14 main_arg1 main_v15 (mulf : (⟨S64x64, .f32⟩ : BufTy).Contents (Elt F) → (⟨S64x64, .f32⟩ : BufTy).Contents (Elt F) → (⟨S64x64, .f32⟩ : BufTy).Contents (Elt F)),
    binary main_v12 main_v15 main_v16 (addf : (⟨S64x64, .f32⟩ : BufTy).Contents (Elt F) → (⟨S64x64, .f32⟩ : BufTy).Contents (Elt F) → (⟨S64x64, .f32⟩ : BufTy).Contents (Elt F)) ]
/-- Each of them touches the core's own buffers only. -/
theorem o_table_sub : (o_table : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub ..,
    unary_bufs_sub .., binary_bufs_sub .., nullary_bufs_sub .., binary_bufs_sub .., unary_bufs_sub .., binary_bufs_sub .., binary_bufs_sub ..⟩
/-- Each of them determines its result. -/
theorem o_table_fresh : (o_table : List (HloOp τ sig (Elt F))).Forall fun op => op.fresh = ∅ :=
  ⟨rfl, rfl, rfl, rfl, rfl, rfl, rfl, rfl, rfl, rfl, rfl, rfl, rfl, rfl⟩
/-- The buffers they write. -/
abbrev o_table_w : List (Ref sig .tc) :=
  [main_v5, main_v6, main_c_1, main_v7, main_v8, main_v9, main_v10, main_v11, main_v12, main_cst_2, main_v13, main_v14, main_v15, main_v16]
theorem o_table_writes : (o_table : List (HloOp τ sig (Elt F))).map HloOp.writes = o_table_w.map fun r => {Proc.devRef (τ := τ) .tc r} := rfl

/-- The reference's operations 23 to 30. -/
abbrev o_prob : List (HloOp τ sig (Elt F)) :=
  [ reshape main_arg0 main_v17 (rfl : (.i32 : EltTy) = .i32) shapeCasts_S524288x1_S524288,
    TRef.unary (.of main_v17 : TRef sig ⟨S524288, .i32⟩) main_call0.v0 (broadcastInDim S524288x1 ![0] bcast_S524288_S524288x1_0),
    TRef.nullary main_call0.v1 (iotaInDim S1x64 32 1),
    TRef.unary main_call0.v0 main_call0.v2 (broadcastInDim S524288x64 ![0, 1] bcast_S524288x1_S524288x64_0_1),
    TRef.unary main_call0.v1 main_call0.v3 (broadcastInDim S524288x64 ![0, 1] bcast_S1x64_S524288x64_0_1),
    TRef.binary main_call0.v2 main_call0.v3 main_call0.v4 (cmpi .eq),
    TRef.unary main_call0.v4 main_call0.v5 (uitofp .f32),
    binary main_v18 main_v16 main_v19 ((fun l r => Host.dotGeneral dot_S524288x64_S64x64_S524288x64_1_0_0_1_n_n none l r) : (⟨S524288x64, .f32⟩ : BufTy).Contents (Elt F) → (⟨S64x64, .f32⟩ : BufTy).Contents (Elt F) → (⟨S524288x64, .f32⟩ : BufTy).Contents (Elt F)) ]
/-- Each of them touches the core's own buffers only. -/
theorem o_prob_sub : (o_prob : List (HloOp τ sig (Elt F))).Forall fun op => op.bufs ⊆ tcRefs τ sig :=
  ⟨reshape_bufs_sub .., unary_bufs_sub .., nullary_bufs_sub .., unary_bufs_sub .., unary_bufs_sub .., binary_bufs_sub .., unary_bufs_sub ..,
    binary_bufs_sub ..⟩
/-- Each of them determines its result. -/
theorem o_prob_fresh : (o_prob : List (HloOp τ sig (Elt F))).Forall fun op => op.fresh = ∅ :=
  ⟨rfl, rfl, rfl, rfl, rfl, rfl, rfl, rfl⟩
/-- The buffers they write. -/
abbrev o_prob_w : List (Ref sig .tc) :=
  [main_v17, main_call0_v0, main_call0_v1, main_call0_v2, main_call0_v3, main_call0_v4, main_v18, main_v19]
theorem o_prob_writes : (o_prob : List (HloOp τ sig (Elt F))).map HloOp.writes = o_prob_w.map fun r => {Proc.devRef (τ := τ) .tc r} := rfl

/-- The reference's operations 31 to 44. -/
abbrev o_keys : List (HloOp τ sig (Elt F)) :=
  [ nullary main_c_3 (constantI S_ 32 42#32),
    nullary main_c_4 (constantI S_ 32 32#32),
    binary main_c_3 main_c_4 main_v20 (Host.shrui : (⟨S_, .i32⟩ : BufTy).Contents (Elt F) → (⟨S_, .i32⟩ : BufTy).Contents (Elt F) → (⟨S_, .i32⟩ : BufTy).Contents (Elt F)),
    unary main_v20 main_v21 (id : (⟨S_, .i32⟩ : BufTy).Contents (Elt F) → (⟨S_, .i32⟩ : BufTy).Contents (Elt F)),
    unary main_v21 main_v22 (broadcastInDim S1 ![] bcast_S_S1 : (⟨S_, .i32⟩ : BufTy).Contents (Elt F) → (⟨S1, .i32⟩ : BufTy).Contents (Elt F)),
    nullary main_c_5 (constantI S_ 32 4294967295#32),
    binary main_c_3 main_c_5 main_v23 (andi : (⟨S_, .i32⟩ : BufTy).Contents (Elt F) → (⟨S_, .i32⟩ : BufTy).Contents (Elt F) → (⟨S_, .i32⟩ : BufTy).Contents (Elt F)),
    unary main_v23 main_v24 (id : (⟨S_, .i32⟩ : BufTy).Contents (Elt F) → (⟨S_, .i32⟩ : BufTy).Contents (Elt F)),
    unary main_v24 main_v25 (broadcastInDim S1 ![] bcast_S_S1 : (⟨S_, .i32⟩ : BufTy).Contents (Elt F) → (⟨S1, .i32⟩ : BufTy).Contents (Elt F)),
    binary main_v22 main_v25 main_v26 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    unary main_v26 main_v27 ((extractStridedSlice S1 ![0] · slices_S2_S1_0) : (⟨S2, .i32⟩ : BufTy).Contents (Elt F) → (⟨S1, .i32⟩ : BufTy).Contents (Elt F)),
    reshape main_v27 main_v28 (rfl : (.i32 : EltTy) = .i32) shapeCasts_S1_S_,
    unary main_v26 main_v29 ((extractStridedSlice S1 ![1] · slices_S2_S1_1) : (⟨S2, .i32⟩ : BufTy).Contents (Elt F) → (⟨S1, .i32⟩ : BufTy).Contents (Elt F)),
    reshape main_v29 main_v30 (rfl : (.i32 : EltTy) = .i32) shapeCasts_S1_S_ ]
/-- Each of them touches the core's own buffers only. -/
theorem o_keys_sub : (o_keys : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub ..,
    unary_bufs_sub .., unary_bufs_sub .., binary_bufs_sub .., unary_bufs_sub .., reshape_bufs_sub .., unary_bufs_sub .., reshape_bufs_sub ..⟩
/-- Each of them determines its result. -/
theorem o_keys_fresh : (o_keys : List (HloOp τ sig (Elt F))).Forall fun op => op.fresh = ∅ :=
  ⟨rfl, rfl, rfl, rfl, rfl, rfl, rfl, rfl, rfl, rfl, rfl, rfl, rfl, rfl⟩
/-- The buffers they write. -/
abbrev o_keys_w : List (Ref sig .tc) :=
  [main_c_3, main_c_4, main_v20, main_v21, main_v22, main_c_5, main_v23, main_v24, main_v25, main_v26, main_v27, main_v28, main_v29, main_v30]
theorem o_keys_writes : (o_keys : List (HloOp τ sig (Elt F))).map HloOp.writes = o_keys_w.map fun r => {Proc.devRef (τ := τ) .tc r} := rfl

/-- The reference's operations 45 to 58. -/
abbrev o_count : List (HloOp τ sig (Elt F)) :=
  [ nullary main_v31 (iotaInDim S524288x64 64 0),
    nullary main_v32 (iotaInDim S524288x64 64 1),
    nullary main_c_6 (constantI S_ 64 64#64),
    unary main_c_6 main_v33 (broadcastInDim S524288x64 ![] bcast_S_S524288x64 : (⟨S_, .i64⟩ : BufTy).Contents (Elt F) → (⟨S524288x64, .i64⟩ : BufTy).Contents (Elt F)),
    binary main_v33 main_v31 main_v34 (muli : (⟨S524288x64, .i64⟩ : BufTy).Contents (Elt F) → (⟨S524288x64, .i64⟩ : BufTy).Contents (Elt F) → (⟨S524288x64, .i64⟩ : BufTy).Contents (Elt F)),
    nullary main_c_7 (constantI S_ 64 1#64),
    unary main_c_7 main_v35 (broadcastInDim S524288x64 ![] bcast_S_S524288x64 : (⟨S_, .i64⟩ : BufTy).Contents (Elt F) → (⟨S524288x64, .i64⟩ : BufTy).Contents (Elt F)),
    binary main_v35 main_v32 main_v36 (muli : (⟨S524288x64, .i64⟩ : BufTy).Contents (Elt F) → (⟨S524288x64, .i64⟩ : BufTy).Contents (Elt F) → (⟨S524288x64, .i64⟩ : BufTy).Contents (Elt F)),
    binary main_v34 main_v36 main_v37 (addi : (⟨S524288x64, .i64⟩ : BufTy).Contents (Elt F) → (⟨S524288x64, .i64⟩ : BufTy).Contents (Elt F) → (⟨S524288x64, .i64⟩ : BufTy).Contents (Elt F)),
    nullary main_c_8 (constantI S_ 64 32#64),
    unary main_c_8 main_v38 (broadcastInDim S524288x64 ![] bcast_S_S524288x64 : (⟨S_, .i64⟩ : BufTy).Contents (Elt F) → (⟨S524288x64, .i64⟩ : BufTy).Contents (Elt F)),
    binary main_v37 main_v38 main_v39 (Host.shrui : (⟨S524288x64, .i64⟩ : BufTy).Contents (Elt F) → (⟨S524288x64, .i64⟩ : BufTy).Contents (Elt F) → (⟨S524288x64, .i64⟩ : BufTy).Contents (Elt F)),
    unary main_v37 main_v40 ((trunci 32 · natLt_32_64) : (⟨S524288x64, .i64⟩ : BufTy).Contents (Elt F) → (⟨S524288x64, .i32⟩ : BufTy).Contents (Elt F)),
    unary main_v39 main_v41 ((trunci 32 · natLt_32_64) : (⟨S524288x64, .i64⟩ : BufTy).Contents (Elt F) → (⟨S524288x64, .i32⟩ : BufTy).Contents (Elt F)) ]
/-- Each of them touches the core's own buffers only. -/
theorem o_count_sub : (o_count : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub .., unary_bufs_sub ..⟩
/-- Each of them determines its result. -/
theorem o_count_fresh : (o_count : List (HloOp τ sig (Elt F))).Forall fun op => op.fresh = ∅ :=
  ⟨rfl, rfl, rfl, rfl, rfl, rfl, rfl, rfl, rfl, rfl, rfl, rfl, rfl, rfl⟩
/-- The buffers they write. -/
abbrev o_count_w : List (Ref sig .tc) :=
  [main_v31, main_v32, main_c_6, main_v33, main_v34, main_c_7, main_v35, main_v36, main_v37, main_c_8, main_v38, main_v39, main_v40, main_v41]
theorem o_count_writes : (o_count : List (HloOp τ sig (Elt F))).map HloOp.writes = o_count_w.map fun r => {Proc.devRef (τ := τ) .tc r} := rfl

/-- The reference's operations 59 to 66. -/
abbrev o_start : List (HloOp τ sig (Elt F)) :=
  [ TRef.binary (.of main_v28 : TRef sig ⟨S_, .i32⟩) (.of main_v30 : TRef sig ⟨S_, .i32⟩) main_call1.v0 xori,
    TRef.nullary main_call1.c (constantI S_ 32 466688986#32),
    TRef.binary main_call1.v0 main_call1.c main_call1.v1 xori,
    TRef.unary (.of main_v28 : TRef sig ⟨S_, .i32⟩) main_call1.v2 (broadcastInDim S524288x64 ![] bcast_S_S524288x64),
    TRef.binary (.of main_v41 : TRef sig ⟨S524288x64, .i32⟩) main_call1.v2 main_call1.v3 addi,
    TRef.unary (.of main_v30 : TRef sig ⟨S_, .i32⟩) main_call1.v4 (broadcastInDim S524288x64 ![] bcast_S_S524288x64),
    TRef.binary (.of main_v40 : TRef sig ⟨S524288x64, .i32⟩) main_call1.v4 main_call1.v5 addi,
    TRef.binary main_call1.v3 main_call1.v5 main_call1.v6 addi ]
/-- Each of them touches the core's own buffers only. -/
theorem o_start_sub : (o_start : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub ..,
    binary_bufs_sub ..⟩
/-- Each of them determines its result. -/
theorem o_start_fresh : (o_start : List (HloOp τ sig (Elt F))).Forall fun op => op.fresh = ∅ :=
  ⟨rfl, rfl, rfl, rfl, rfl, rfl, rfl, rfl⟩
/-- The buffers they write. -/
abbrev o_start_w : List (Ref sig .tc) :=
  [main_call1_v0, main_call1_c, main_call1_v1, main_call1_v2, main_call1_v3, main_call1_v4, main_call1_v5, main_call1_v6]
theorem o_start_writes : (o_start : List (HloOp τ sig (Elt F))).map HloOp.writes = o_start_w.map fun r => {Proc.devRef (τ := τ) .tc r} := rfl

/-- The reference's operations 67 to 75. -/
abbrev o_round0 : List (HloOp τ sig (Elt F)) :=
  [ TRef.nullary main_call1.c_0 (constantI S_ 32 13#32),
    TRef.unary main_call1.c_0 main_call1.v7 (broadcastInDim S524288x64 ![] bcast_S_S524288x64),
    TRef.binary main_call1.v5 main_call1.v7 main_call1.v8 Host.shli,
    TRef.nullary main_call1.c_1 (constantI S_ 32 19#32),
    TRef.unary main_call1.c_1 main_call1.v9 (broadcastInDim S524288x64 ![] bcast_S_S524288x64),
    TRef.binary main_call1.v5 main_call1.v9 main_call1.v10 Host.shrui,
    TRef.binary main_call1.v8 main_call1.v10 main_call1.v11 ori,
    TRef.binary main_call1.v6 main_call1.v11 main_call1.v12 xori,
    TRef.binary main_call1.v6 main_call1.v12 main_call1.v13 addi ]
/-- Each of them touches the core's own buffers only. -/
theorem o_round0_sub : (o_round0 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round0_fresh : (o_round0 : List (HloOp τ sig (Elt F))).Forall fun op => op.fresh = ∅ :=
  ⟨rfl, rfl, rfl, rfl, rfl, rfl, rfl, rfl, rfl⟩
/-- The buffers they write. -/
abbrev o_round0_w : List (Ref sig .tc) :=
  [main_call1_c_0, main_call1_v7, main_call1_v8, main_call1_c_1, main_call1_v9, main_call1_v10, main_call1_v11, main_call1_v12, main_call1_v13]
theorem o_round0_writes : (o_round0 : List (HloOp τ sig (Elt F))).map HloOp.writes = o_round0_w.map fun r => {Proc.devRef (τ := τ) .tc r} := rfl

/-- The reference's operations 76 to 84. -/
abbrev o_round1 : List (HloOp τ sig (Elt F)) :=
  [ TRef.nullary main_call1.c_2 (constantI S_ 32 15#32),
    TRef.unary main_call1.c_2 main_call1.v14 (broadcastInDim S524288x64 ![] bcast_S_S524288x64),
    TRef.binary main_call1.v12 main_call1.v14 main_call1.v15 Host.shli,
    TRef.nullary main_call1.c_3 (constantI S_ 32 17#32),
    TRef.unary main_call1.c_3 main_call1.v16 (broadcastInDim S524288x64 ![] bcast_S_S524288x64),
    TRef.binary main_call1.v12 main_call1.v16 main_call1.v17 Host.shrui,
    TRef.binary main_call1.v15 main_call1.v17 main_call1.v18 ori,
    TRef.binary main_call1.v13 main_call1.v18 main_call1.v19 xori,
    TRef.binary main_call1.v13 main_call1.v19 main_call1.v20 addi ]
/-- Each of them touches the core's own buffers only. -/
theorem o_round1_sub : (o_round1 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round1_fresh : (o_round1 : List (HloOp τ sig (Elt F))).Forall fun op => op.fresh = ∅ :=
  ⟨rfl, rfl, rfl, rfl, rfl, rfl, rfl, rfl, rfl⟩
/-- The buffers they write. -/
abbrev o_round1_w : List (Ref sig .tc) :=
  [main_call1_c_2, main_call1_v14, main_call1_v15, main_call1_c_3, main_call1_v16, main_call1_v17, main_call1_v18, main_call1_v19, main_call1_v20]
theorem o_round1_writes : (o_round1 : List (HloOp τ sig (Elt F))).map HloOp.writes = o_round1_w.map fun r => {Proc.devRef (τ := τ) .tc r} := rfl

/-- The reference's operations 85 to 93. -/
abbrev o_round2 : List (HloOp τ sig (Elt F)) :=
  [ TRef.nullary main_call1.c_4 (constantI S_ 32 26#32),
    TRef.unary main_call1.c_4 main_call1.v21 (broadcastInDim S524288x64 ![] bcast_S_S524288x64),
    TRef.binary main_call1.v19 main_call1.v21 main_call1.v22 Host.shli,
    TRef.nullary main_call1.c_5 (constantI S_ 32 6#32),
    TRef.unary main_call1.c_5 main_call1.v23 (broadcastInDim S524288x64 ![] bcast_S_S524288x64),
    TRef.binary main_call1.v19 main_call1.v23 main_call1.v24 Host.shrui,
    TRef.binary main_call1.v22 main_call1.v24 main_call1.v25 ori,
    TRef.binary main_call1.v20 main_call1.v25 main_call1.v26 xori,
    TRef.binary main_call1.v20 main_call1.v26 main_call1.v27 addi ]
/-- Each of them touches the core's own buffers only. -/
theorem o_round2_sub : (o_round2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round2_fresh : (o_round2 : List (HloOp τ sig (Elt F))).Forall fun op => op.fresh = ∅ :=
  ⟨rfl, rfl, rfl, rfl, rfl, rfl, rfl, rfl, rfl⟩
/-- The buffers they write. -/
abbrev o_round2_w : List (Ref sig .tc) :=
  [main_call1_c_4, main_call1_v21, main_call1_v22, main_call1_c_5, main_call1_v23, main_call1_v24, main_call1_v25, main_call1_v26, main_call1_v27]
theorem o_round2_writes : (o_round2 : List (HloOp τ sig (Elt F))).map HloOp.writes = o_round2_w.map fun r => {Proc.devRef (τ := τ) .tc r} := rfl

/-- The reference's operations 94 to 109. -/
abbrev o_round3 : List (HloOp τ sig (Elt F)) :=
  [ TRef.nullary main_call1.c_6 (constantI S_ 32 6#32),
    TRef.unary main_call1.c_6 main_call1.v28 (broadcastInDim S524288x64 ![] bcast_S_S524288x64),
    TRef.binary main_call1.v26 main_call1.v28 main_call1.v29 Host.shli,
    TRef.nullary main_call1.c_7 (constantI S_ 32 26#32),
    TRef.unary main_call1.c_7 main_call1.v30 (broadcastInDim S524288x64 ![] bcast_S_S524288x64),
    TRef.binary main_call1.v26 main_call1.v30 main_call1.v31 Host.shrui,
    TRef.binary main_call1.v29 main_call1.v31 main_call1.v32 ori,
    TRef.binary main_call1.v27 main_call1.v32 main_call1.v33 xori,
    TRef.unary (.of main_v30 : TRef sig ⟨S_, .i32⟩) main_call1.v34 (broadcastInDim S524288x64 ![] bcast_S_S524288x64),
    TRef.binary main_call1.v27 main_call1.v34 main_call1.v35 addi,
    TRef.unary main_call1.v1 main_call1.v36 (broadcastInDim S524288x64 ![] bcast_S_S524288x64),
    TRef.binary main_call1.v33 main_call1.v36 main_call1.v37 addi,
    TRef.nullary main_call1.c_8 (constantI S_ 32 1#32),
    TRef.unary main_call1.c_8 main_call1.v38 (broadcastInDim S524288x64 ![] bcast_S_S524288x64),
    TRef.binary main_call1.v37 main_call1.v38 main_call1.v39 addi,
    TRef.binary main_call1.v35 main_call1.v39 main_call1.v40 addi ]
/-- Each of them touches the core's own buffers only. -/
theorem o_round3_sub : (o_round3 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub .., binary_bufs_sub ..⟩
/-- Each of them determines its result. -/
theorem o_round3_fresh : (o_round3 : List (HloOp τ sig (Elt F))).Forall fun op => op.fresh = ∅ :=
  ⟨rfl, rfl, rfl, rfl, rfl, rfl, rfl, rfl, rfl, rfl, rfl, rfl, rfl, rfl, rfl, rfl⟩
/-- The buffers they write. -/
abbrev o_round3_w : List (Ref sig .tc) :=
  [main_call1_c_6, main_call1_v28, main_call1_v29, main_call1_c_7, main_call1_v30, main_call1_v31, main_call1_v32, main_call1_v33, main_call1_v34,
    main_call1_v35, main_call1_v36, main_call1_v37, main_call1_c_8, main_call1_v38, main_call1_v39, main_call1_v40]
theorem o_round3_writes : (o_round3 : List (HloOp τ sig (Elt F))).map HloOp.writes = o_round3_w.map fun r => {Proc.devRef (τ := τ) .tc r} := rfl

/-- The reference's operations 110 to 118. -/
abbrev o_round4 : List (HloOp τ sig (Elt F)) :=
  [ TRef.nullary main_call1.c_9 (constantI S_ 32 17#32),
    TRef.unary main_call1.c_9 main_call1.v41 (broadcastInDim S524288x64 ![] bcast_S_S524288x64),
    TRef.binary main_call1.v39 main_call1.v41 main_call1.v42 Host.shli,
    TRef.nullary main_call1.c_10 (constantI S_ 32 15#32),
    TRef.unary main_call1.c_10 main_call1.v43 (broadcastInDim S524288x64 ![] bcast_S_S524288x64),
    TRef.binary main_call1.v39 main_call1.v43 main_call1.v44 Host.shrui,
    TRef.binary main_call1.v42 main_call1.v44 main_call1.v45 ori,
    TRef.binary main_call1.v40 main_call1.v45 main_call1.v46 xori,
    TRef.binary main_call1.v40 main_call1.v46 main_call1.v47 addi ]
/-- Each of them touches the core's own buffers only. -/
theorem o_round4_sub : (o_round4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round4_fresh : (o_round4 : List (HloOp τ sig (Elt F))).Forall fun op => op.fresh = ∅ :=
  ⟨rfl, rfl, rfl, rfl, rfl, rfl, rfl, rfl, rfl⟩
/-- The buffers they write. -/
abbrev o_round4_w : List (Ref sig .tc) :=
  [main_call1_c_9, main_call1_v41, main_call1_v42, main_call1_c_10, main_call1_v43, main_call1_v44, main_call1_v45, main_call1_v46, main_call1_v47]
theorem o_round4_writes : (o_round4 : List (HloOp τ sig (Elt F))).map HloOp.writes = o_round4_w.map fun r => {Proc.devRef (τ := τ) .tc r} := rfl

/-- The reference's operations 119 to 127. -/
abbrev o_round5 : List (HloOp τ sig (Elt F)) :=
  [ TRef.nullary main_call1.c_11 (constantI S_ 32 29#32),
    TRef.unary main_call1.c_11 main_call1.v48 (broadcastInDim S524288x64 ![] bcast_S_S524288x64),
    TRef.binary main_call1.v46 main_call1.v48 main_call1.v49 Host.shli,
    TRef.nullary main_call1.c_12 (constantI S_ 32 3#32),
    TRef.unary main_call1.c_12 main_call1.v50 (broadcastInDim S524288x64 ![] bcast_S_S524288x64),
    TRef.binary main_call1.v46 main_call1.v50 main_call1.v51 Host.shrui,
    TRef.binary main_call1.v49 main_call1.v51 main_call1.v52 ori,
    TRef.binary main_call1.v47 main_call1.v52 main_call1.v53 xori,
    TRef.binary main_call1.v47 main_call1.v53 main_call1.v54 addi ]
/-- Each of them touches the core's own buffers only. -/
theorem o_round5_sub : (o_round5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round5_fresh : (o_round5 : List (HloOp τ sig (Elt F))).Forall fun op => op.fresh = ∅ :=
  ⟨rfl, rfl, rfl, rfl, rfl, rfl, rfl, rfl, rfl⟩
/-- The buffers they write. -/
abbrev o_round5_w : List (Ref sig .tc) :=
  [main_call1_c_11, main_call1_v48, main_call1_v49, main_call1_c_12, main_call1_v50, main_call1_v51, main_call1_v52, main_call1_v53, main_call1_v54]
theorem o_round5_writes : (o_round5 : List (HloOp τ sig (Elt F))).map HloOp.writes = o_round5_w.map fun r => {Proc.devRef (τ := τ) .tc r} := rfl

/-- The reference's operations 128 to 136. -/
abbrev o_round6 : List (HloOp τ sig (Elt F)) :=
  [ TRef.nullary main_call1.c_13 (constantI S_ 32 16#32),
    TRef.unary main_call1.c_13 main_call1.v55 (broadcastInDim S524288x64 ![] bcast_S_S524288x64),
    TRef.binary main_call1.v53 main_call1.v55 main_call1.v56 Host.shli,
    TRef.nullary main_call1.c_14 (constantI S_ 32 16#32),
    TRef.unary main_call1.c_14 main_call1.v57 (broadcastInDim S524288x64 ![] bcast_S_S524288x64),
    TRef.binary main_call1.v53 main_call1.v57 main_call1.v58 Host.shrui,
    TRef.binary main_call1.v56 main_call1.v58 main_call1.v59 ori,
    TRef.binary main_call1.v54 main_call1.v59 main_call1.v60 xori,
    TRef.binary main_call1.v54 main_call1.v60 main_call1.v61 addi ]
/-- Each of them touches the core's own buffers only. -/
theorem o_round6_sub : (o_round6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round6_fresh : (o_round6 : List (HloOp τ sig (Elt F))).Forall fun op => op.fresh = ∅ :=
  ⟨rfl, rfl, rfl, rfl, rfl, rfl, rfl, rfl, rfl⟩
/-- The buffers they write. -/
abbrev o_round6_w : List (Ref sig .tc) :=
  [main_call1_c_13, main_call1_v55, main_call1_v56, main_call1_c_14, main_call1_v57, main_call1_v58, main_call1_v59, main_call1_v60, main_call1_v61]
theorem o_round6_writes : (o_round6 : List (HloOp τ sig (Elt F))).map HloOp.writes = o_round6_w.map fun r => {Proc.devRef (τ := τ) .tc r} := rfl

/-- The reference's operations 137 to 152. -/
abbrev o_round7 : List (HloOp τ sig (Elt F)) :=
  [ TRef.nullary main_call1.c_15 (constantI S_ 32 24#32),
    TRef.unary main_call1.c_15 main_call1.v62 (broadcastInDim S524288x64 ![] bcast_S_S524288x64),
    TRef.binary main_call1.v60 main_call1.v62 main_call1.v63 Host.shli,
    TRef.nullary main_call1.c_16 (constantI S_ 32 8#32),
    TRef.unary main_call1.c_16 main_call1.v64 (broadcastInDim S524288x64 ![] bcast_S_S524288x64),
    TRef.binary main_call1.v60 main_call1.v64 main_call1.v65 Host.shrui,
    TRef.binary main_call1.v63 main_call1.v65 main_call1.v66 ori,
    TRef.binary main_call1.v61 main_call1.v66 main_call1.v67 xori,
    TRef.unary main_call1.v1 main_call1.v68 (broadcastInDim S524288x64 ![] bcast_S_S524288x64),
    TRef.binary main_call1.v61 main_call1.v68 main_call1.v69 addi,
    TRef.unary (.of main_v28 : TRef sig ⟨S_, .i32⟩) main_call1.v70 (broadcastInDim S524288x64 ![] bcast_S_S524288x64),
    TRef.binary main_call1.v67 main_call1.v70 main_call1.v71 addi,
    TRef.nullary main_call1.c_17 (constantI S_ 32 2#32),
    TRef.unary main_call1.c_17 main_call1.v72 (broadcastInDim S524288x64 ![] bcast_S_S524288x64),
    TRef.binary main_call1.v71 main_call1.v72 main_call1.v73 addi,
    TRef.binary main_call1.v69 main_call1.v73 main_call1.v74 addi ]
/-- Each of them touches the core's own buffers only. -/
theorem o_round7_sub : (o_round7 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub .., binary_bufs_sub ..⟩
/-- Each of them determines its result. -/
theorem o_round7_fresh : (o_round7 : List (HloOp τ sig (Elt F))).Forall fun op => op.fresh = ∅ :=
  ⟨rfl, rfl, rfl, rfl, rfl, rfl, rfl, rfl, rfl, rfl, rfl, rfl, rfl, rfl, rfl, rfl⟩
/-- The buffers they write. -/
abbrev o_round7_w : List (Ref sig .tc) :=
  [main_call1_c_15, main_call1_v62, main_call1_v63, main_call1_c_16, main_call1_v64, main_call1_v65, main_call1_v66, main_call1_v67, main_call1_v68,
    main_call1_v69, main_call1_v70, main_call1_v71, main_call1_c_17, main_call1_v72, main_call1_v73, main_call1_v74]
theorem o_round7_writes : (o_round7 : List (HloOp τ sig (Elt F))).map HloOp.writes = o_round7_w.map fun r => {Proc.devRef (τ := τ) .tc r} := rfl

/-- The reference's operations 153 to 161. -/
abbrev o_round8 : List (HloOp τ sig (Elt F)) :=
  [ TRef.nullary main_call1.c_18 (constantI S_ 32 13#32),
    TRef.unary main_call1.c_18 main_call1.v75 (broadcastInDim S524288x64 ![] bcast_S_S524288x64),
    TRef.binary main_call1.v73 main_call1.v75 main_call1.v76 Host.shli,
    TRef.nullary main_call1.c_19 (constantI S_ 32 19#32),
    TRef.unary main_call1.c_19 main_call1.v77 (broadcastInDim S524288x64 ![] bcast_S_S524288x64),
    TRef.binary main_call1.v73 main_call1.v77 main_call1.v78 Host.shrui,
    TRef.binary main_call1.v76 main_call1.v78 main_call1.v79 ori,
    TRef.binary main_call1.v74 main_call1.v79 main_call1.v80 xori,
    TRef.binary main_call1.v74 main_call1.v80 main_call1.v81 addi ]
/-- Each of them touches the core's own buffers only. -/
theorem o_round8_sub : (o_round8 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round8_fresh : (o_round8 : List (HloOp τ sig (Elt F))).Forall fun op => op.fresh = ∅ :=
  ⟨rfl, rfl, rfl, rfl, rfl, rfl, rfl, rfl, rfl⟩
/-- The buffers they write. -/
abbrev o_round8_w : List (Ref sig .tc) :=
  [main_call1_c_18, main_call1_v75, main_call1_v76, main_call1_c_19, main_call1_v77, main_call1_v78, main_call1_v79, main_call1_v80, main_call1_v81]
theorem o_round8_writes : (o_round8 : List (HloOp τ sig (Elt F))).map HloOp.writes = o_round8_w.map fun r => {Proc.devRef (τ := τ) .tc r} := rfl

/-- The reference's operations 162 to 170. -/
abbrev o_round9 : List (HloOp τ sig (Elt F)) :=
  [ TRef.nullary main_call1.c_20 (constantI S_ 32 15#32),
    TRef.unary main_call1.c_20 main_call1.v82 (broadcastInDim S524288x64 ![] bcast_S_S524288x64),
    TRef.binary main_call1.v80 main_call1.v82 main_call1.v83 Host.shli,
    TRef.nullary main_call1.c_21 (constantI S_ 32 17#32),
    TRef.unary main_call1.c_21 main_call1.v84 (broadcastInDim S524288x64 ![] bcast_S_S524288x64),
    TRef.binary main_call1.v80 main_call1.v84 main_call1.v85 Host.shrui,
    TRef.binary main_call1.v83 main_call1.v85 main_call1.v86 ori,
    TRef.binary main_call1.v81 main_call1.v86 main_call1.v87 xori,
    TRef.binary main_call1.v81 main_call1.v87 main_call1.v88 addi ]
/-- Each of them touches the core's own buffers only. -/
theorem o_round9_sub : (o_round9 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round9_fresh : (o_round9 : List (HloOp τ sig (Elt F))).Forall fun op => op.fresh = ∅ :=
  ⟨rfl, rfl, rfl, rfl, rfl, rfl, rfl, rfl, rfl⟩
/-- The buffers they write. -/
abbrev o_round9_w : List (Ref sig .tc) :=
  [main_call1_c_20, main_call1_v82, main_call1_v83, main_call1_c_21, main_call1_v84, main_call1_v85, main_call1_v86, main_call1_v87, main_call1_v88]
theorem o_round9_writes : (o_round9 : List (HloOp τ sig (Elt F))).map HloOp.writes = o_round9_w.map fun r => {Proc.devRef (τ := τ) .tc r} := rfl

/-- The reference's operations 171 to 178. -/
abbrev o_round10a : List (HloOp τ sig (Elt F)) :=
  [ TRef.nullary main_call1.c_22 (constantI S_ 32 26#32),
    TRef.unary main_call1.c_22 main_call1.v89 (broadcastInDim S524288x64 ![] bcast_S_S524288x64),
    TRef.binary main_call1.v87 main_call1.v89 main_call1.v90 Host.shli,
    TRef.nullary main_call1.c_23 (constantI S_ 32 6#32),
    TRef.unary main_call1.c_23 main_call1.v91 (broadcastInDim S524288x64 ![] bcast_S_S524288x64),
    TRef.binary main_call1.v87 main_call1.v91 main_call1.v92 Host.shrui,
    TRef.binary main_call1.v90 main_call1.v92 main_call1.v93 ori,
    TRef.binary main_call1.v88 main_call1.v93 main_call1.v94 xori ]
/-- Each of them touches the core's own buffers only. -/
theorem o_round10a_sub : (o_round10a : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub ..⟩
/-- Each of them determines its result. -/
theorem o_round10a_fresh : (o_round10a : List (HloOp τ sig (Elt F))).Forall fun op => op.fresh = ∅ :=
  ⟨rfl, rfl, rfl, rfl, rfl, rfl, rfl, rfl⟩
/-- The buffers they write. -/
abbrev o_round10a_w : List (Ref sig .tc) :=
  [main_call1_c_22, main_call1_v89, main_call1_v90, main_call1_c_23, main_call1_v91, main_call1_v92, main_call1_v93, main_call1_v94]
theorem o_round10a_writes : (o_round10a : List (HloOp τ sig (Elt F))).map HloOp.writes = o_round10a_w.map fun r => {Proc.devRef (τ := τ) .tc r} := rfl

/-- The reference's operations 179 to 179. -/
abbrev o_round10b : List (HloOp τ sig (Elt F)) :=
  [ TRef.binary main_call1.v88 main_call1.v94 main_call1.v95 addi ]
/-- Each of them touches the core's own buffers only. -/
theorem o_round10b_sub : (o_round10b : List (HloOp τ sig (Elt F))).Forall fun op => op.bufs ⊆ tcRefs τ sig :=
  binary_bufs_sub ..
/-- Each of them determines its result. -/
theorem o_round10b_fresh : (o_round10b : List (HloOp τ sig (Elt F))).Forall fun op => op.fresh = ∅ :=
  rfl
/-- The buffers they write. -/
abbrev o_round10b_w : List (Ref sig .tc) :=
  [main_call1_v95]
theorem o_round10b_writes : (o_round10b : List (HloOp τ sig (Elt F))).map HloOp.writes = o_round10b_w.map fun r => {Proc.devRef (τ := τ) .tc r} := rfl

/-- The reference's operations 180 to 195. -/
abbrev o_round11 : List (HloOp τ sig (Elt F)) :=
  [ TRef.nullary main_call1.c_24 (constantI S_ 32 6#32),
    TRef.unary main_call1.c_24 main_call1.v96 (broadcastInDim S524288x64 ![] bcast_S_S524288x64),
    TRef.binary main_call1.v94 main_call1.v96 main_call1.v97 Host.shli,
    TRef.nullary main_call1.c_25 (constantI S_ 32 26#32),
    TRef.unary main_call1.c_25 main_call1.v98 (broadcastInDim S524288x64 ![] bcast_S_S524288x64),
    TRef.binary main_call1.v94 main_call1.v98 main_call1.v99 Host.shrui,
    TRef.binary main_call1.v97 main_call1.v99 main_call1.v100 ori,
    TRef.binary main_call1.v95 main_call1.v100 main_call1.v101 xori,
    TRef.unary (.of main_v28 : TRef sig ⟨S_, .i32⟩) main_call1.v102 (broadcastInDim S524288x64 ![] bcast_S_S524288x64),
    TRef.binary main_call1.v95 main_call1.v102 main_call1.v103 addi,
    TRef.unary (.of main_v30 : TRef sig ⟨S_, .i32⟩) main_call1.v104 (broadcastInDim S524288x64 ![] bcast_S_S524288x64),
    TRef.binary main_call1.v101 main_call1.v104 main_call1.v105 addi,
    TRef.nullary main_call1.c_26 (constantI S_ 32 3#32),
    TRef.unary main_call1.c_26 main_call1.v106 (broadcastInDim S524288x64 ![] bcast_S_S524288x64),
    TRef.binary main_call1.v105 main_call1.v106 main_call1.v107 addi,
    TRef.binary main_call1.v103 main_call1.v107 main_call1.v108 addi ]
/-- Each of them touches the core's own buffers only. -/
theorem o_round11_sub : (o_round11 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub .., binary_bufs_sub ..⟩
/-- Each of them determines its result. -/
theorem o_round11_fresh : (o_round11 : List (HloOp τ sig (Elt F))).Forall fun op => op.fresh = ∅ :=
  ⟨rfl, rfl, rfl, rfl, rfl, rfl, rfl, rfl, rfl, rfl, rfl, rfl, rfl, rfl, rfl, rfl⟩
/-- The buffers they write. -/
abbrev o_round11_w : List (Ref sig .tc) :=
  [main_call1_c_24, main_call1_v96, main_call1_v97, main_call1_c_25, main_call1_v98, main_call1_v99, main_call1_v100, main_call1_v101, main_call1_v102,
    main_call1_v103, main_call1_v104, main_call1_v105, main_call1_c_26, main_call1_v106, main_call1_v107, main_call1_v108]
theorem o_round11_writes : (o_round11 : List (HloOp τ sig (Elt F))).map HloOp.writes = o_round11_w.map fun r => {Proc.devRef (τ := τ) .tc r} := rfl

/-- The reference's operations 196 to 204. -/
abbrev o_round12 : List (HloOp τ sig (Elt F)) :=
  [ TRef.nullary main_call1.c_27 (constantI S_ 32 17#32),
    TRef.unary main_call1.c_27 main_call1.v109 (broadcastInDim S524288x64 ![] bcast_S_S524288x64),
    TRef.binary main_call1.v107 main_call1.v109 main_call1.v110 Host.shli,
    TRef.nullary main_call1.c_28 (constantI S_ 32 15#32),
    TRef.unary main_call1.c_28 main_call1.v111 (broadcastInDim S524288x64 ![] bcast_S_S524288x64),
    TRef.binary main_call1.v107 main_call1.v111 main_call1.v112 Host.shrui,
    TRef.binary main_call1.v110 main_call1.v112 main_call1.v113 ori,
    TRef.binary main_call1.v108 main_call1.v113 main_call1.v114 xori,
    TRef.binary main_call1.v108 main_call1.v114 main_call1.v115 addi ]
/-- Each of them touches the core's own buffers only. -/
theorem o_round12_sub : (o_round12 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round12_fresh : (o_round12 : List (HloOp τ sig (Elt F))).Forall fun op => op.fresh = ∅ :=
  ⟨rfl, rfl, rfl, rfl, rfl, rfl, rfl, rfl, rfl⟩
/-- The buffers they write. -/
abbrev o_round12_w : List (Ref sig .tc) :=
  [main_call1_c_27, main_call1_v109, main_call1_v110, main_call1_c_28, main_call1_v111, main_call1_v112, main_call1_v113, main_call1_v114,
    main_call1_v115]
theorem o_round12_writes : (o_round12 : List (HloOp τ sig (Elt F))).map HloOp.writes = o_round12_w.map fun r => {Proc.devRef (τ := τ) .tc r} := rfl

/-- The reference's operations 205 to 213. -/
abbrev o_round13 : List (HloOp τ sig (Elt F)) :=
  [ TRef.nullary main_call1.c_29 (constantI S_ 32 29#32),
    TRef.unary main_call1.c_29 main_call1.v116 (broadcastInDim S524288x64 ![] bcast_S_S524288x64),
    TRef.binary main_call1.v114 main_call1.v116 main_call1.v117 Host.shli,
    TRef.nullary main_call1.c_30 (constantI S_ 32 3#32),
    TRef.unary main_call1.c_30 main_call1.v118 (broadcastInDim S524288x64 ![] bcast_S_S524288x64),
    TRef.binary main_call1.v114 main_call1.v118 main_call1.v119 Host.shrui,
    TRef.binary main_call1.v117 main_call1.v119 main_call1.v120 ori,
    TRef.binary main_call1.v115 main_call1.v120 main_call1.v121 xori,
    TRef.binary main_call1.v115 main_call1.v121 main_call1.v122 addi ]
/-- Each of them touches the core's own buffers only. -/
theorem o_round13_sub : (o_round13 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round13_fresh : (o_round13 : List (HloOp τ sig (Elt F))).Forall fun op => op.fresh = ∅ :=
  ⟨rfl, rfl, rfl, rfl, rfl, rfl, rfl, rfl, rfl⟩
/-- The buffers they write. -/
abbrev o_round13_w : List (Ref sig .tc) :=
  [main_call1_c_29, main_call1_v116, main_call1_v117, main_call1_c_30, main_call1_v118, main_call1_v119, main_call1_v120, main_call1_v121,
    main_call1_v122]
theorem o_round13_writes : (o_round13 : List (HloOp τ sig (Elt F))).map HloOp.writes = o_round13_w.map fun r => {Proc.devRef (τ := τ) .tc r} := rfl

/-- The reference's operations 214 to 222. -/
abbrev o_round14 : List (HloOp τ sig (Elt F)) :=
  [ TRef.nullary main_call1.c_31 (constantI S_ 32 16#32),
    TRef.unary main_call1.c_31 main_call1.v123 (broadcastInDim S524288x64 ![] bcast_S_S524288x64),
    TRef.binary main_call1.v121 main_call1.v123 main_call1.v124 Host.shli,
    TRef.nullary main_call1.c_32 (constantI S_ 32 16#32),
    TRef.unary main_call1.c_32 main_call1.v125 (broadcastInDim S524288x64 ![] bcast_S_S524288x64),
    TRef.binary main_call1.v121 main_call1.v125 main_call1.v126 Host.shrui,
    TRef.binary main_call1.v124 main_call1.v126 main_call1.v127 ori,
    TRef.binary main_call1.v122 main_call1.v127 main_call1.v128 xori,
    TRef.binary main_call1.v122 main_call1.v128 main_call1.v129 addi ]
/-- Each of them touches the core's own buffers only. -/
theorem o_round14_sub : (o_round14 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round14_fresh : (o_round14 : List (HloOp τ sig (Elt F))).Forall fun op => op.fresh = ∅ :=
  ⟨rfl, rfl, rfl, rfl, rfl, rfl, rfl, rfl, rfl⟩
/-- The buffers they write. -/
abbrev o_round14_w : List (Ref sig .tc) :=
  [main_call1_c_31, main_call1_v123, main_call1_v124, main_call1_c_32, main_call1_v125, main_call1_v126, main_call1_v127, main_call1_v128,
    main_call1_v129]
theorem o_round14_writes : (o_round14 : List (HloOp τ sig (Elt F))).map HloOp.writes = o_round14_w.map fun r => {Proc.devRef (τ := τ) .tc r} := rfl

/-- The reference's operations 223 to 238. -/
abbrev o_round15 : List (HloOp τ sig (Elt F)) :=
  [ TRef.nullary main_call1.c_33 (constantI S_ 32 24#32),
    TRef.unary main_call1.c_33 main_call1.v130 (broadcastInDim S524288x64 ![] bcast_S_S524288x64),
    TRef.binary main_call1.v128 main_call1.v130 main_call1.v131 Host.shli,
    TRef.nullary main_call1.c_34 (constantI S_ 32 8#32),
    TRef.unary main_call1.c_34 main_call1.v132 (broadcastInDim S524288x64 ![] bcast_S_S524288x64),
    TRef.binary main_call1.v128 main_call1.v132 main_call1.v133 Host.shrui,
    TRef.binary main_call1.v131 main_call1.v133 main_call1.v134 ori,
    TRef.binary main_call1.v129 main_call1.v134 main_call1.v135 xori,
    TRef.unary (.of main_v30 : TRef sig ⟨S_, .i32⟩) main_call1.v136 (broadcastInDim S524288x64 ![] bcast_S_S524288x64),
    TRef.binary main_call1.v129 main_call1.v136 main_call1.v137 addi,
    TRef.unary main_call1.v1 main_call1.v138 (broadcastInDim S524288x64 ![] bcast_S_S524288x64),
    TRef.binary main_call1.v135 main_call1.v138 main_call1.v139 addi,
    TRef.nullary main_call1.c_35 (constantI S_ 32 4#32),
    TRef.unary main_call1.c_35 main_call1.v140 (broadcastInDim S524288x64 ![] bcast_S_S524288x64),
    TRef.binary main_call1.v139 main_call1.v140 main_call1.v141 addi,
    TRef.binary main_call1.v137 main_call1.v141 main_call1.v142 addi ]
/-- Each of them touches the core's own buffers only. -/
theorem o_round15_sub : (o_round15 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub .., binary_bufs_sub ..⟩
/-- Each of them determines its result. -/
theorem o_round15_fresh : (o_round15 : List (HloOp τ sig (Elt F))).Forall fun op => op.fresh = ∅ :=
  ⟨rfl, rfl, rfl, rfl, rfl, rfl, rfl, rfl, rfl, rfl, rfl, rfl, rfl, rfl, rfl, rfl⟩
/-- The buffers they write. -/
abbrev o_round15_w : List (Ref sig .tc) :=
  [main_call1_c_33, main_call1_v130, main_call1_v131, main_call1_c_34, main_call1_v132, main_call1_v133, main_call1_v134, main_call1_v135,
    main_call1_v136, main_call1_v137, main_call1_v138, main_call1_v139, main_call1_c_35, main_call1_v140, main_call1_v141, main_call1_v142]
theorem o_round15_writes : (o_round15 : List (HloOp τ sig (Elt F))).map HloOp.writes = o_round15_w.map fun r => {Proc.devRef (τ := τ) .tc r} := rfl

/-- The reference's operations 239 to 247. -/
abbrev o_round16 : List (HloOp τ sig (Elt F)) :=
  [ TRef.nullary main_call1.c_36 (constantI S_ 32 13#32),
    TRef.unary main_call1.c_36 main_call1.v143 (broadcastInDim S524288x64 ![] bcast_S_S524288x64),
    TRef.binary main_call1.v141 main_call1.v143 main_call1.v144 Host.shli,
    TRef.nullary main_call1.c_37 (constantI S_ 32 19#32),
    TRef.unary main_call1.c_37 main_call1.v145 (broadcastInDim S524288x64 ![] bcast_S_S524288x64),
    TRef.binary main_call1.v141 main_call1.v145 main_call1.v146 Host.shrui,
    TRef.binary main_call1.v144 main_call1.v146 main_call1.v147 ori,
    TRef.binary main_call1.v142 main_call1.v147 main_call1.v148 xori,
    TRef.binary main_call1.v142 main_call1.v148 main_call1.v149 addi ]
/-- Each of them touches the core's own buffers only. -/
theorem o_round16_sub : (o_round16 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round16_fresh : (o_round16 : List (HloOp τ sig (Elt F))).Forall fun op => op.fresh = ∅ :=
  ⟨rfl, rfl, rfl, rfl, rfl, rfl, rfl, rfl, rfl⟩
/-- The buffers they write. -/
abbrev o_round16_w : List (Ref sig .tc) :=
  [main_call1_c_36, main_call1_v143, main_call1_v144, main_call1_c_37, main_call1_v145, main_call1_v146, main_call1_v147, main_call1_v148,
    main_call1_v149]
theorem o_round16_writes : (o_round16 : List (HloOp τ sig (Elt F))).map HloOp.writes = o_round16_w.map fun r => {Proc.devRef (τ := τ) .tc r} := rfl

/-- The reference's operations 248 to 256. -/
abbrev o_round17 : List (HloOp τ sig (Elt F)) :=
  [ TRef.nullary main_call1.c_38 (constantI S_ 32 15#32),
    TRef.unary main_call1.c_38 main_call1.v150 (broadcastInDim S524288x64 ![] bcast_S_S524288x64),
    TRef.binary main_call1.v148 main_call1.v150 main_call1.v151 Host.shli,
    TRef.nullary main_call1.c_39 (constantI S_ 32 17#32),
    TRef.unary main_call1.c_39 main_call1.v152 (broadcastInDim S524288x64 ![] bcast_S_S524288x64),
    TRef.binary main_call1.v148 main_call1.v152 main_call1.v153 Host.shrui,
    TRef.binary main_call1.v151 main_call1.v153 main_call1.v154 ori,
    TRef.binary main_call1.v149 main_call1.v154 main_call1.v155 xori,
    TRef.binary main_call1.v149 main_call1.v155 main_call1.v156 addi ]
/-- Each of them touches the core's own buffers only. -/
theorem o_round17_sub : (o_round17 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round17_fresh : (o_round17 : List (HloOp τ sig (Elt F))).Forall fun op => op.fresh = ∅ :=
  ⟨rfl, rfl, rfl, rfl, rfl, rfl, rfl, rfl, rfl⟩
/-- The buffers they write. -/
abbrev o_round17_w : List (Ref sig .tc) :=
  [main_call1_c_38, main_call1_v150, main_call1_v151, main_call1_c_39, main_call1_v152, main_call1_v153, main_call1_v154, main_call1_v155,
    main_call1_v156]
theorem o_round17_writes : (o_round17 : List (HloOp τ sig (Elt F))).map HloOp.writes = o_round17_w.map fun r => {Proc.devRef (τ := τ) .tc r} := rfl

/-- The reference's operations 257 to 265. -/
abbrev o_round18 : List (HloOp τ sig (Elt F)) :=
  [ TRef.nullary main_call1.c_40 (constantI S_ 32 26#32),
    TRef.unary main_call1.c_40 main_call1.v157 (broadcastInDim S524288x64 ![] bcast_S_S524288x64),
    TRef.binary main_call1.v155 main_call1.v157 main_call1.v158 Host.shli,
    TRef.nullary main_call1.c_41 (constantI S_ 32 6#32),
    TRef.unary main_call1.c_41 main_call1.v159 (broadcastInDim S524288x64 ![] bcast_S_S524288x64),
    TRef.binary main_call1.v155 main_call1.v159 main_call1.v160 Host.shrui,
    TRef.binary main_call1.v158 main_call1.v160 main_call1.v161 ori,
    TRef.binary main_call1.v156 main_call1.v161 main_call1.v162 xori,
    TRef.binary main_call1.v156 main_call1.v162 main_call1.v163 addi ]
/-- Each of them touches the core's own buffers only. -/
theorem o_round18_sub : (o_round18 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., binary_bufs_sub ..⟩
/-- Each of them determines its result. -/
theorem o_round18_fresh : (o_round18 : List (HloOp τ sig (Elt F))).Forall fun op => op.fresh = ∅ :=
  ⟨rfl, rfl, rfl, rfl, rfl, rfl, rfl, rfl, rfl⟩
/-- The buffers they write. -/
abbrev o_round18_w : List (Ref sig .tc) :=
  [main_call1_c_40, main_call1_v157, main_call1_v158, main_call1_c_41, main_call1_v159, main_call1_v160, main_call1_v161, main_call1_v162,
    main_call1_v163]
theorem o_round18_writes : (o_round18 : List (HloOp τ sig (Elt F))).map HloOp.writes = o_round18_w.map fun r => {Proc.devRef (τ := τ) .tc r} := rfl

/-- The reference's operations 266 to 280. -/
abbrev o_round19 : List (HloOp τ sig (Elt F)) :=
  [ TRef.nullary main_call1.c_42 (constantI S_ 32 6#32),
    TRef.unary main_call1.c_42 main_call1.v164 (broadcastInDim S524288x64 ![] bcast_S_S524288x64),
    TRef.binary main_call1.v162 main_call1.v164 main_call1.v165 Host.shli,
    TRef.nullary main_call1.c_43 (constantI S_ 32 26#32),
    TRef.unary main_call1.c_43 main_call1.v166 (broadcastInDim S524288x64 ![] bcast_S_S524288x64),
    TRef.binary main_call1.v162 main_call1.v166 main_call1.v167 Host.shrui,
    TRef.binary main_call1.v165 main_call1.v167 main_call1.v168 ori,
    TRef.binary main_call1.v163 main_call1.v168 main_call1.v169 xori,
    TRef.unary main_call1.v1 main_call1.v170 (broadcastInDim S524288x64 ![] bcast_S_S524288x64),
    TRef.binary main_call1.v163 main_call1.v170 main_call1.v171 addi,
    TRef.unary (.of main_v28 : TRef sig ⟨S_, .i32⟩) main_call1.v172 (broadcastInDim S524288x64 ![] bcast_S_S524288x64),
    TRef.binary main_call1.v169 main_call1.v172 main_call1.v173 addi,
    TRef.nullary main_call1.c_44 (constantI S_ 32 5#32),
    TRef.unary main_call1.c_44 main_call1.v174 (broadcastInDim S524288x64 ![] bcast_S_S524288x64),
    TRef.binary main_call1.v173 main_call1.v174 main_call1.v175 addi ]
/-- Each of them touches the core's own buffers only. -/
theorem o_round19_sub : (o_round19 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub ..⟩
/-- Each of them determines its result. -/
theorem o_round19_fresh : (o_round19 : List (HloOp τ sig (Elt F))).Forall fun op => op.fresh = ∅ :=
  ⟨rfl, rfl, rfl, rfl, rfl, rfl, rfl, rfl, rfl, rfl, rfl, rfl, rfl, rfl, rfl⟩
/-- The buffers they write. -/
abbrev o_round19_w : List (Ref sig .tc) :=
  [main_call1_c_42, main_call1_v164, main_call1_v165, main_call1_c_43, main_call1_v166, main_call1_v167, main_call1_v168, main_call1_v169,
    main_call1_v170, main_v42_0, main_call1_v172, main_call1_v173, main_call1_c_44, main_call1_v174, main_v42_1]
theorem o_round19_writes : (o_round19 : List (HloOp τ sig (Elt F))).map HloOp.writes = o_round19_w.map fun r => {Proc.devRef (τ := τ) .tc r} := rfl

/-- The reference's operations 281 to 286. -/
abbrev o_drawa : List (HloOp τ sig (Elt F)) :=
  [ binary main_v42_0 main_v42_1 main_v43 (xori : (⟨S524288x64, .i32⟩ : BufTy).Contents (Elt F) → (⟨S524288x64, .i32⟩ : BufTy).Contents (Elt F) → (⟨S524288x64, .i32⟩ : BufTy).Contents (Elt F)),
    nullary main_c_9 (constantI S_ 32 9#32),
    unary main_c_9 main_v44 (broadcastInDim S524288x64 ![] bcast_S_S524288x64 : (⟨S_, .i32⟩ : BufTy).Contents (Elt F) → (⟨S524288x64, .i32⟩ : BufTy).Contents (Elt F)),
    binary main_v43 main_v44 main_v45 (Host.shrui : (⟨S524288x64, .i32⟩ : BufTy).Contents (Elt F) → (⟨S524288x64, .i32⟩ : BufTy).Contents (Elt F) → (⟨S524288x64, .i32⟩ : BufTy).Contents (Elt F)),
    unary main_v45 main_v46 (id : (⟨S524288x64, .i32⟩ : BufTy).Contents (Elt F) → (⟨S524288x64, .i32⟩ : BufTy).Contents (Elt F)),
    nullary main_c_10 (constantI S_ 32 0#32) ]
/-- Each of them touches the core's own buffers only. -/
theorem o_drawa_sub : (o_drawa : List (HloOp τ sig (Elt F))).Forall fun op => op.bufs ⊆ tcRefs τ sig :=
  ⟨binary_bufs_sub .., nullary_bufs_sub .., unary_bufs_sub .., binary_bufs_sub .., unary_bufs_sub .., nullary_bufs_sub ..⟩
/-- Each of them determines its result. -/
theorem o_drawa_fresh : (o_drawa : List (HloOp τ sig (Elt F))).Forall fun op => op.fresh = ∅ :=
  ⟨rfl, rfl, rfl, rfl, rfl, rfl⟩
/-- The buffers they write. -/
abbrev o_drawa_w : List (Ref sig .tc) :=
  [main_v43, main_c_9, main_v44, main_v45, main_v46, main_c_10]
theorem o_drawa_writes : (o_drawa : List (HloOp τ sig (Elt F))).map HloOp.writes = o_drawa_w.map fun r => {Proc.devRef (τ := τ) .tc r} := rfl

/-- The reference's operations 287 to 299. -/
abbrev o_drawb : List (HloOp τ sig (Elt F)) :=
  [ unary main_c_10 main_v47 (broadcastInDim S524288x64 ![] bcast_S_S524288x64 : (⟨S_, .i32⟩ : BufTy).Contents (Elt F) → (⟨S524288x64, .i32⟩ : BufTy).Contents (Elt F)),
    binary main_v46 main_v47 main_v48 (cmpi .eq : (⟨S524288x64, .i32⟩ : BufTy).Contents (Elt F) → (⟨S524288x64, .i32⟩ : BufTy).Contents (Elt F) → (⟨S524288x64, .i1⟩ : BufTy).Contents (Elt F)),
    unary main_v46 main_v49 (sitofp .f32 : (⟨S524288x64, .i32⟩ : BufTy).Contents (Elt F) → (⟨S524288x64, .f32⟩ : BufTy).Contents (Elt F)),
    nullary main_cst_11 (constant S_ .f32 0x34000000#32),
    unary main_cst_11 main_v50 (broadcastInDim S524288x64 ![] bcast_S_S524288x64 : (⟨S_, .f32⟩ : BufTy).Contents (Elt F) → (⟨S524288x64, .f32⟩ : BufTy).Contents (Elt F)),
    binary main_v49 main_v50 main_v51 (mulf : (⟨S524288x64, .f32⟩ : BufTy).Contents (Elt F) → (⟨S524288x64, .f32⟩ : BufTy).Contents (Elt F) → (⟨S524288x64, .f32⟩ : BufTy).Contents (Elt F)),
    nullary main_cst_12 (constant S_ .f32 0x00800000#32),
    TRef.unary (.of main_cst_12 : TRef sig ⟨S_, .f32⟩) main_call2.v0 (broadcastInDim S524288x64 ![] bcast_S_S524288x64),
    TRef.ternary (.of main_v48 : TRef sig ⟨S524288x64, .i1⟩) main_call2.v0 (.of main_v51 : TRef sig ⟨S524288x64, .f32⟩) main_call2.v1 select,
    unary main_v52 main_v53 (Host.log : (⟨S524288x64, .f32⟩ : BufTy).Contents (Elt F) → (⟨S524288x64, .f32⟩ : BufTy).Contents (Elt F)),
    unary main_v53 main_v54 (Host.negf : (⟨S524288x64, .f32⟩ : BufTy).Contents (Elt F) → (⟨S524288x64, .f32⟩ : BufTy).Contents (Elt F)),
    unary main_v54 main_v55 (Host.log : (⟨S524288x64, .f32⟩ : BufTy).Contents (Elt F) → (⟨S524288x64, .f32⟩ : BufTy).Contents (Elt F)),
    unary main_v55 main_v56 (Host.negf : (⟨S524288x64, .f32⟩ : BufTy).Contents (Elt F) → (⟨S524288x64, .f32⟩ : BufTy).Contents (Elt F)) ]
/-- Each of them touches the core's own buffers only. -/
theorem o_drawb_sub : (o_drawb : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub ..,
    unary_bufs_sub .., ternary_bufs_sub .., unary_bufs_sub .., unary_bufs_sub .., unary_bufs_sub .., unary_bufs_sub ..⟩
/-- Each of them determines its result. -/
theorem o_drawb_fresh : (o_drawb : List (HloOp τ sig (Elt F))).Forall fun op => op.fresh = ∅ :=
  ⟨rfl, rfl, rfl, rfl, rfl, rfl, rfl, rfl, rfl, rfl, rfl, rfl, rfl⟩
/-- The buffers they write. -/
abbrev o_drawb_w : List (Ref sig .tc) :=
  [main_v47, main_v48, main_v49, main_cst_11, main_v50, main_v51, main_cst_12, main_call2_v0, main_v52, main_v53, main_v54, main_v55, main_v56]
theorem o_drawb_writes : (o_drawb : List (HloOp τ sig (Elt F))).map HloOp.writes = o_drawb_w.map fun r => {Proc.devRef (τ := τ) .tc r} := rfl

/-- The reference's operations 300 to 304. -/
abbrev o_score : List (HloOp τ sig (Elt F)) :=
  [ nullary main_cst_13 (constant S_ .f32 0x2B8CBCCC#32),
    unary main_cst_13 main_v57 (broadcastInDim S524288x64 ![] bcast_S_S524288x64 : (⟨S_, .f32⟩ : BufTy).Contents (Elt F) → (⟨S524288x64, .f32⟩ : BufTy).Contents (Elt F)),
    binary main_v19 main_v57 main_v58 (addf : (⟨S524288x64, .f32⟩ : BufTy).Contents (Elt F) → (⟨S524288x64, .f32⟩ : BufTy).Contents (Elt F) → (⟨S524288x64, .f32⟩ : BufTy).Contents (Elt F)),
    unary main_v58 main_v59 (Host.log : (⟨S524288x64, .f32⟩ : BufTy).Contents (Elt F) → (⟨S524288x64, .f32⟩ : BufTy).Contents (Elt F)),
    binary main_v56 main_v59 main_v60 (addf : (⟨S524288x64, .f32⟩ : BufTy).Contents (Elt F) → (⟨S524288x64, .f32⟩ : BufTy).Contents (Elt F) → (⟨S524288x64, .f32⟩ : BufTy).Contents (Elt F)) ]
/-- Each of them touches the core's own buffers only. -/
theorem o_score_sub : (o_score : List (HloOp τ sig (Elt F))).Forall fun op => op.bufs ⊆ tcRefs τ sig :=
  ⟨nullary_bufs_sub .., unary_bufs_sub .., binary_bufs_sub .., unary_bufs_sub .., binary_bufs_sub ..⟩
/-- Each of them determines its result. -/
theorem o_score_fresh : (o_score : List (HloOp τ sig (Elt F))).Forall fun op => op.fresh = ∅ :=
  ⟨rfl, rfl, rfl, rfl, rfl⟩
/-- The buffers they write. -/
abbrev o_score_w : List (Ref sig .tc) :=
  [main_cst_13, main_v57, main_v58, main_v59, main_v60]
theorem o_score_writes : (o_score : List (HloOp τ sig (Elt F))).map HloOp.writes = o_score_w.map fun r => {Proc.devRef (τ := τ) .tc r} := rfl

/-- The reference's operations 305 to 310. -/
abbrev o_pick : List (HloOp τ sig (Elt F)) :=
  [ TRef.nullary main_call3.v0 (iotaInDim S524288x64 32 1),
    TRef.nullary main_call3.cst (constant S_ .f32 0xFF800000#32),
    TRef.nullary main_call3.c (constantI S_ 32 0#32),
    TRef.quaternary (.of main_v60 : TRef sig ⟨S524288x64, .f32⟩) main_call3.v0 main_call3.cst main_call3.c main_call3.v1_0 (fun x y u v j => (Host.argReduce reducer_argmax_f32_i32 x y u v reducesTo_S524288x64_S524288_d1 h_S_ j).1),
    TRef.quaternary (.of main_v60 : TRef sig ⟨S524288x64, .f32⟩) main_call3.v0 main_call3.cst main_call3.c main_call3.v1_1 (fun x y u v j => (Host.argReduce reducer_argmax_f32_i32 x y u v reducesTo_S524288x64_S524288_d1 h_S_ j).2),
    unary main_v61 main_v62 (broadcastInDim S524288x1 ![0] bcast_S524288_S524288x1_0 : (⟨S524288, .i32⟩ : BufTy).Contents (Elt F) → (⟨S524288x1, .i32⟩ : BufTy).Contents (Elt F)) ]
/-- Each of them touches the core's own buffers only. -/
theorem o_pick_sub : (o_pick : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..⟩
/-- Each of them determines its result. -/
theorem o_pick_fresh : (o_pick : List (HloOp τ sig (Elt F))).Forall fun op => op.fresh = ∅ :=
  ⟨rfl, rfl, rfl, rfl, rfl, rfl⟩
/-- The buffers they write. -/
abbrev o_pick_w : List (Ref sig .tc) :=
  [main_call3_v0, main_call3_cst, main_call3_c, main_call3_v1_0, main_v61, main_v62]
theorem o_pick_writes : (o_pick : List (HloOp τ sig (Elt F))).map HloOp.writes = o_pick_w.map fun r => {Proc.devRef (τ := τ) .tc r} := rfl

/-- The operations of one printed stretch of the reference. -/
def w0 : List (HloOp τ sig (Elt F)) := o_alpha ++ o_table ++ o_prob ++ o_keys ++ o_count
/-- The operations of one printed stretch of the reference. -/
def p0 : List (HloOp τ sig (Elt F)) := o_start ++ o_round0 ++ o_round1 ++ o_round2 ++ o_round3 ++ o_round4
/-- The operations of one printed stretch of the reference. -/
def p1 : List (HloOp τ sig (Elt F)) := o_round5 ++ o_round6 ++ o_round7 ++ o_round8 ++ o_round9 ++ o_round10a
/-- The operations of one printed stretch of the reference. -/
def p2 : List (HloOp τ sig (Elt F)) := o_round10b ++ o_round11 ++ o_round12 ++ o_round13 ++ o_round14 ++ o_round15
/-- The operations of one printed stretch of the reference. -/
def p3 : List (HloOp τ sig (Elt F)) := o_round16 ++ o_round17 ++ o_round18 ++ o_round19
/-- The operations of one printed stretch of the reference. -/
def w1 : List (HloOp τ sig (Elt F)) := o_drawa
/-- The operations of one printed stretch of the reference. -/
def w2 : List (HloOp τ sig (Elt F)) := o_drawb ++ o_score ++ o_pick
/-- All the operations of the reference, in order. -/
def ops : List (HloOp τ sig (Elt F)) := w0 ++ ((p0 ++ (p1 ++ (p2 ++ p3))) ++ w1) ++ w2

end Cert.Proof.Ref

end
-- ==== Proof.Hash.lean ====
module

public import Idealize.ShloMosaic.PureOps.Ideal

@[expose] public section

/-! The random words: the Threefry-2x32 hash of the counter pair (0, c) under the key (0, 42), with the two words
xored together. The state is kept as (s, x): s the first word already increased by the second, x the second. -/

namespace Cert.Proof.Hash

/-- The word turned left by `r` places. -/
def rot (r : ℕ) (y : BitVec 32) : BitVec 32 := (y <<< r) ||| (y >>> (32 - r))

/-- One round without a key: turn, xor, and the next addition. -/
def mix (r : ℕ) (p : BitVec 32 × BitVec 32) : BitVec 32 × BitVec 32 :=
  (p.1 + (p.1 ^^^ rot r p.2), p.1 ^^^ rot r p.2)

/-- One round after which the key words `a` and `b` go in. -/
def inj (r : ℕ) (a b : BitVec 32) (p : BitVec 32 × BitVec 32) : BitVec 32 × BitVec 32 :=
  ((p.1 + a) + ((p.1 ^^^ rot r p.2) + b), (p.1 ^^^ rot r p.2) + b)

/-- The last round: key words in, and the two output words xored. -/
def fin (r : ℕ) (a b : BitVec 32) (p : BitVec 32 × BitVec 32) : BitVec 32 :=
  (p.1 + a) ^^^ ((p.1 ^^^ rot r p.2) + b)

/-- The state after the first four rounds, from the first sum. -/
def g1 (c : BitVec 32) : BitVec 32 × BitVec 32 :=
  inj 6 42#32 466689009#32 (mix 26 (mix 15 (mix 13 (c, c))))
/-- Four more rounds, key words 466689008 and 2. -/
def g2 (p : BitVec 32 × BitVec 32) : BitVec 32 × BitVec 32 :=
  inj 24 466689008#32 2#32 (mix 16 (mix 29 (mix 17 p)))
/-- Four more rounds, key words 0 and 45. -/
def g3 (p : BitVec 32 × BitVec 32) : BitVec 32 × BitVec 32 :=
  inj 6 0#32 45#32 (mix 26 (mix 15 (mix 13 p)))
/-- Four more rounds, key words 42 and 466689012. -/
def g4 (p : BitVec 32 × BitVec 32) : BitVec 32 × BitVec 32 :=
  inj 24 42#32 466689012#32 (mix 16 (mix 29 (mix 17 p)))
/-- The last four rounds. -/
def g5 (p : BitVec 32 × BitVec 32) : BitVec 32 :=
  fin 6 466689008#32 5#32 (mix 26 (mix 15 (mix 13 p)))

/-- The random word of the counter whose sum with the key is `c`. -/
def word (c : BitVec 32) : BitVec 32 := g5 (g4 (g3 (g2 (g1 c))))

end Cert.Proof.Hash

end
-- ==== Proof.RefRounds.lean ====
module

public import proofs.«01_k».proof.Proof.RefOps
public import proofs.«01_k».proof.Proof.Hash
public import Idealize.ShloMosaic.Lib.Pipeline.Frame
public import Idealize.ShloMosaic.Lib.StableHlo.RunRead

@[expose] public section

noncomputable section

/-! The reference's run, and its hash read round by round. -/

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- A part of the hash function is the straight line of its operations. -/
theorem p0_eq : fn_threefry2x32.body_part0 (F := F) (.of main_v28 : TRef sig ⟨S_, .i32⟩) (.of main_v30 : TRef sig ⟨S_, .i32⟩) (.of main_v41 : TRef sig ⟨S524288x64, .i32⟩) (.of main_v40 : TRef sig ⟨S524288x64, .i32⟩) main_call1 = seq p0 := rfl

/-- A part of the hash function is the straight line of its operations. -/
theorem p1_eq : fn_threefry2x32.body_part1 (F := F) (.of main_v28 : TRef sig ⟨S_, .i32⟩) (.of main_v30 : TRef sig ⟨S_, .i32⟩) (.of main_v41 : TRef sig ⟨S524288x64, .i32⟩) (.of main_v40 : TRef sig ⟨S524288x64, .i32⟩) main_call1 = seq p1 := rfl

/-- A part of the hash function is the straight line of its operations. -/
theorem p2_eq : fn_threefry2x32.body_part2 (F := F) (.of main_v28 : TRef sig ⟨S_, .i32⟩) (.of main_v30 : TRef sig ⟨S_, .i32⟩) (.of main_v41 : TRef sig ⟨S524288x64, .i32⟩) (.of main_v40 : TRef sig ⟨S524288x64, .i32⟩) main_call1 = seq p2 := rfl

/-- A part of the hash function is the straight line of its operations. -/
theorem p3_eq : fn_threefry2x32.body_part3 (F := F) (.of main_v28 : TRef sig ⟨S_, .i32⟩) (.of main_v30 : TRef sig ⟨S_, .i32⟩) (.of main_v41 : TRef sig ⟨S524288x64, .i32⟩) (.of main_v40 : TRef sig ⟨S524288x64, .i32⟩) main_call1 = seq p3 := rfl

/-- The hash function is the straight line of its parts' operations. -/
theorem hash_eq : fn_threefry2x32.body (F := F) (.of main_v28 : TRef sig ⟨S_, .i32⟩) (.of main_v30 : TRef sig ⟨S_, .i32⟩) (.of main_v41 : TRef sig ⟨S524288x64, .i32⟩) (.of main_v40 : TRef sig ⟨S524288x64, .i32⟩) main_call1 = seq (p0 ++ (p1 ++ (p2 ++ p3))) := by
  rw [seq_append, seq_append, seq_append, ← p0_eq, ← p1_eq, ← p2_eq, ← p3_eq]
  rfl

/-- The first stretch of the reference, around its call of the hash. -/
theorem part0_eq (c : Dev nD) : main_part0 (F := F) c = seq (w0 ++ ((p0 ++ (p1 ++ (p2 ++ p3))) ++ w1)) := by
  rw [seq_append, seq_append, ← hash_eq]
  rfl

/-- The last stretch of the reference. -/
theorem part1_eq (c : Dev nD) : main_part1 (F := F) c = seq w2 := rfl

/-- The reference is the straight line of its operations. -/
theorem main_eq (c : Dev nD) : main (F := F) c = seq ops := by
  rw [ops, seq_append, ← part0_eq c, ← part1_eq c]
  rfl

/-- The operations, stretch by stretch where they are read. -/
theorem ops_atoms : (ops : List (HloOp τ sig (Elt F))) = [o_alpha, o_table, o_prob, o_keys, o_count, o_start, o_round0, o_round1, o_round2, o_round3, o_round4, o_round5, o_round6, o_round7, o_round8, o_round9, o_round10a, o_round10b, o_round11, o_round12, o_round13, o_round14, o_round15, o_round16, o_round17, o_round18, o_round19, o_drawa, o_drawb, o_score, o_pick].flatten := by
  simp only [ops, w0, w1, w2, p0, p1, p2, p3, List.flatten_cons, List.flatten_nil, List.append_assoc, List.append_nil]

/-- A side condition of the run, for every operation. -/
theorem ops_sub : (ops : List (HloOp τ sig (Elt F))).Forall fun op => op.bufs ⊆ tcRefs τ sig := by
  rw [ops_atoms, List.forall_iff_forall_mem]
  intro op h
  obtain ⟨l, hl, ho⟩ := List.mem_flatten.mp h
  simp only [List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [List.forall_iff_forall_mem.mp o_alpha_sub op ho, List.forall_iff_forall_mem.mp o_table_sub op ho, List.forall_iff_forall_mem.mp o_prob_sub op ho, List.forall_iff_forall_mem.mp o_keys_sub op ho, List.forall_iff_forall_mem.mp o_count_sub op ho, List.forall_iff_forall_mem.mp o_start_sub op ho, List.forall_iff_forall_mem.mp o_round0_sub op ho, List.forall_iff_forall_mem.mp o_round1_sub op ho, List.forall_iff_forall_mem.mp o_round2_sub op ho, List.forall_iff_forall_mem.mp o_round3_sub op ho, List.forall_iff_forall_mem.mp o_round4_sub op ho, List.forall_iff_forall_mem.mp o_round5_sub op ho, List.forall_iff_forall_mem.mp o_round6_sub op ho, List.forall_iff_forall_mem.mp o_round7_sub op ho, List.forall_iff_forall_mem.mp o_round8_sub op ho, List.forall_iff_forall_mem.mp o_round9_sub op ho, List.forall_iff_forall_mem.mp o_round10a_sub op ho, List.forall_iff_forall_mem.mp o_round10b_sub op ho, List.forall_iff_forall_mem.mp o_round11_sub op ho, List.forall_iff_forall_mem.mp o_round12_sub op ho, List.forall_iff_forall_mem.mp o_round13_sub op ho, List.forall_iff_forall_mem.mp o_round14_sub op ho, List.forall_iff_forall_mem.mp o_round15_sub op ho, List.forall_iff_forall_mem.mp o_round16_sub op ho, List.forall_iff_forall_mem.mp o_round17_sub op ho, List.forall_iff_forall_mem.mp o_round18_sub op ho, List.forall_iff_forall_mem.mp o_round19_sub op ho, List.forall_iff_forall_mem.mp o_drawa_sub op ho, List.forall_iff_forall_mem.mp o_drawb_sub op ho, List.forall_iff_forall_mem.mp o_score_sub op ho, List.forall_iff_forall_mem.mp o_pick_sub op ho]

/-- A side condition of the run, for every operation. -/
theorem ops_fresh : (ops : List (HloOp τ sig (Elt F))).Forall fun op => op.fresh = ∅ := by
  rw [ops_atoms, List.forall_iff_forall_mem]
  intro op h
  obtain ⟨l, hl, ho⟩ := List.mem_flatten.mp h
  simp only [List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [List.forall_iff_forall_mem.mp o_alpha_fresh op ho, List.forall_iff_forall_mem.mp o_table_fresh op ho, List.forall_iff_forall_mem.mp o_prob_fresh op ho, List.forall_iff_forall_mem.mp o_keys_fresh op ho, List.forall_iff_forall_mem.mp o_count_fresh op ho, List.forall_iff_forall_mem.mp o_start_fresh op ho, List.forall_iff_forall_mem.mp o_round0_fresh op ho, List.forall_iff_forall_mem.mp o_round1_fresh op ho, List.forall_iff_forall_mem.mp o_round2_fresh op ho, List.forall_iff_forall_mem.mp o_round3_fresh op ho, List.forall_iff_forall_mem.mp o_round4_fresh op ho, List.forall_iff_forall_mem.mp o_round5_fresh op ho, List.forall_iff_forall_mem.mp o_round6_fresh op ho, List.forall_iff_forall_mem.mp o_round7_fresh op ho, List.forall_iff_forall_mem.mp o_round8_fresh op ho, List.forall_iff_forall_mem.mp o_round9_fresh op ho, List.forall_iff_forall_mem.mp o_round10a_fresh op ho, List.forall_iff_forall_mem.mp o_round10b_fresh op ho, List.forall_iff_forall_mem.mp o_round11_fresh op ho, List.forall_iff_forall_mem.mp o_round12_fresh op ho, List.forall_iff_forall_mem.mp o_round13_fresh op ho, List.forall_iff_forall_mem.mp o_round14_fresh op ho, List.forall_iff_forall_mem.mp o_round15_fresh op ho, List.forall_iff_forall_mem.mp o_round16_fresh op ho, List.forall_iff_forall_mem.mp o_round17_fresh op ho, List.forall_iff_forall_mem.mp o_round18_fresh op ho, List.forall_iff_forall_mem.mp o_round19_fresh op ho, List.forall_iff_forall_mem.mp o_drawa_fresh op ho, List.forall_iff_forall_mem.mp o_drawb_fresh op ho, List.forall_iff_forall_mem.mp o_score_fresh op ho, List.forall_iff_forall_mem.mp o_pick_fresh op ho]

/-- The run's contents, stretch after stretch. -/
theorem after_ops (V : Valuation τ sig (Elt F)) : after ops V = after o_pick (after o_score (after o_drawb (after o_drawa (after o_round19 (after o_round18 (after o_round17 (after o_round16 (after o_round15 (after o_round14 (after o_round13 (after o_round12 (after o_round11 (after o_round10b (after o_round10a (after o_round9 (after o_round8 (after o_round7 (after o_round6 (after o_round5 (after o_round4 (after o_round3 (after o_round2 (after o_round1 (after o_round0 (after o_start (after o_count (after o_keys (after o_prob (after o_table (after o_alpha V)))))))))))))))))))))))))))))) := by
  rw [ops_atoms]
  simp only [List.flatten_cons, List.flatten_nil, List.append_nil, after_append]

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

/-- The reference runs, and leaves every buffer at its operations' results. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The keys and the probabilities, as the hash's rounds find and keep them. -/
structure Keys (P : FVec F S524288x64 .f32) (V : Valuation τ sig (Elt F)) : Prop where
  k0 : V (main_v28 : DevRef τ sig) = (fun _ => 0#32 : IVec S_ 32)
  k1 : V (main_v30 : DevRef τ sig) = (fun _ => 42#32 : IVec S_ 32)
  k2 : V (main_call1_v1 : DevRef τ sig) = (fun _ => 466689008#32 : IVec S_ 32)
  p : V (main_v19 : DevRef τ sig) = P

/-- Two buffers hold the two words of the state `f`. -/
structure Holds (a b : IVec S524288x64 32) (f : S524288x64.Idx → BitVec 32 × BitVec 32) : Prop where
  s : a = fun j => (f j).1
  x : b = fun j => (f j).2

theorem o_round0_keys {P : FVec F S524288x64 .f32} {V : Valuation τ sig (Elt F)} (h : Keys P V) : Keys P (after o_round0 V) :=
  ⟨(after_unwritten o_round0_w o_round0_writes (by decide) V).trans h.k0, (after_unwritten o_round0_w o_round0_writes (by decide) V).trans h.k1,
    (after_unwritten o_round0_w o_round0_writes (by decide) V).trans h.k2, (after_unwritten o_round0_w o_round0_writes (by decide) V).trans h.p⟩

theorem o_round1_keys {P : FVec F S524288x64 .f32} {V : Valuation τ sig (Elt F)} (h : Keys P V) : Keys P (after o_round1 V) :=
  ⟨(after_unwritten o_round1_w o_round1_writes (by decide) V).trans h.k0, (after_unwritten o_round1_w o_round1_writes (by decide) V).trans h.k1,
    (after_unwritten o_round1_w o_round1_writes (by decide) V).trans h.k2, (after_unwritten o_round1_w o_round1_writes (by decide) V).trans h.p⟩

theorem o_round2_keys {P : FVec F S524288x64 .f32} {V : Valuation τ sig (Elt F)} (h : Keys P V) : Keys P (after o_round2 V) :=
  ⟨(after_unwritten o_round2_w o_round2_writes (by decide) V).trans h.k0, (after_unwritten o_round2_w o_round2_writes (by decide) V).trans h.k1,
    (after_unwritten o_round2_w o_round2_writes (by decide) V).trans h.k2, (after_unwritten o_round2_w o_round2_writes (by decide) V).trans h.p⟩

theorem o_round3_keys {P : FVec F S524288x64 .f32} {V : Valuation τ sig (Elt F)} (h : Keys P V) : Keys P (after o_round3 V) :=
  ⟨(after_unwritten o_round3_w o_round3_writes (by decide) V).trans h.k0, (after_unwritten o_round3_w o_round3_writes (by decide) V).trans h.k1,
    (after_unwritten o_round3_w o_round3_writes (by decide) V).trans h.k2, (after_unwritten o_round3_w o_round3_writes (by decide) V).trans h.p⟩

theorem o_round4_keys {P : FVec F S524288x64 .f32} {V : Valuation τ sig (Elt F)} (h : Keys P V) : Keys P (after o_round4 V) :=
  ⟨(after_unwritten o_round4_w o_round4_writes (by decide) V).trans h.k0, (after_unwritten o_round4_w o_round4_writes (by decide) V).trans h.k1,
    (after_unwritten o_round4_w o_round4_writes (by decide) V).trans h.k2, (after_unwritten o_round4_w o_round4_writes (by decide) V).trans h.p⟩

theorem o_round5_keys {P : FVec F S524288x64 .f32} {V : Valuation τ sig (Elt F)} (h : Keys P V) : Keys P (after o_round5 V) :=
  ⟨(after_unwritten o_round5_w o_round5_writes (by decide) V).trans h.k0, (after_unwritten o_round5_w o_round5_writes (by decide) V).trans h.k1,
    (after_unwritten o_round5_w o_round5_writes (by decide) V).trans h.k2, (after_unwritten o_round5_w o_round5_writes (by decide) V).trans h.p⟩

theorem o_round6_keys {P : FVec F S524288x64 .f32} {V : Valuation τ sig (Elt F)} (h : Keys P V) : Keys P (after o_round6 V) :=
  ⟨(after_unwritten o_round6_w o_round6_writes (by decide) V).trans h.k0, (after_unwritten o_round6_w o_round6_writes (by decide) V).trans h.k1,
    (after_unwritten o_round6_w o_round6_writes (by decide) V).trans h.k2, (after_unwritten o_round6_w o_round6_writes (by decide) V).trans h.p⟩

theorem o_round7_keys {P : FVec F S524288x64 .f32} {V : Valuation τ sig (Elt F)} (h : Keys P V) : Keys P (after o_round7 V) :=
  ⟨(after_unwritten o_round7_w o_round7_writes (by decide) V).trans h.k0, (after_unwritten o_round7_w o_round7_writes (by decide) V).trans h.k1,
    (after_unwritten o_round7_w o_round7_writes (by decide) V).trans h.k2, (after_unwritten o_round7_w o_round7_writes (by decide) V).trans h.p⟩

theorem o_round8_keys {P : FVec F S524288x64 .f32} {V : Valuation τ sig (Elt F)} (h : Keys P V) : Keys P (after o_round8 V) :=
  ⟨(after_unwritten o_round8_w o_round8_writes (by decide) V).trans h.k0, (after_unwritten o_round8_w o_round8_writes (by decide) V).trans h.k1,
    (after_unwritten o_round8_w o_round8_writes (by decide) V).trans h.k2, (after_unwritten o_round8_w o_round8_writes (by decide) V).trans h.p⟩

theorem o_round9_keys {P : FVec F S524288x64 .f32} {V : Valuation τ sig (Elt F)} (h : Keys P V) : Keys P (after o_round9 V) :=
  ⟨(after_unwritten o_round9_w o_round9_writes (by decide) V).trans h.k0, (after_unwritten o_round9_w o_round9_writes (by decide) V).trans h.k1,
    (after_unwritten o_round9_w o_round9_writes (by decide) V).trans h.k2, (after_unwritten o_round9_w o_round9_writes (by decide) V).trans h.p⟩

theorem o_round10a_keys {P : FVec F S524288x64 .f32} {V : Valuation τ sig (Elt F)} (h : Keys P V) : Keys P (after o_round10a V) :=
  ⟨(after_unwritten o_round10a_w o_round10a_writes (by decide) V).trans h.k0, (after_unwritten o_round10a_w o_round10a_writes (by decide) V).trans h.k1,
    (after_unwritten o_round10a_w o_round10a_writes (by decide) V).trans h.k2, (after_unwritten o_round10a_w o_round10a_writes (by decide) V).trans h.p⟩

theorem o_round10b_keys {P : FVec F S524288x64 .f32} {V : Valuation τ sig (Elt F)} (h : Keys P V) : Keys P (after o_round10b V) :=
  ⟨(after_unwritten o_round10b_w o_round10b_writes (by decide) V).trans h.k0, (after_unwritten o_round10b_w o_round10b_writes (by decide) V).trans h.k1,
    (after_unwritten o_round10b_w o_round10b_writes (by decide) V).trans h.k2, (after_unwritten o_round10b_w o_round10b_writes (by decide) V).trans h.p⟩

theorem o_round11_keys {P : FVec F S524288x64 .f32} {V : Valuation τ sig (Elt F)} (h : Keys P V) : Keys P (after o_round11 V) :=
  ⟨(after_unwritten o_round11_w o_round11_writes (by decide) V).trans h.k0, (after_unwritten o_round11_w o_round11_writes (by decide) V).trans h.k1,
    (after_unwritten o_round11_w o_round11_writes (by decide) V).trans h.k2, (after_unwritten o_round11_w o_round11_writes (by decide) V).trans h.p⟩

theorem o_round12_keys {P : FVec F S524288x64 .f32} {V : Valuation τ sig (Elt F)} (h : Keys P V) : Keys P (after o_round12 V) :=
  ⟨(after_unwritten o_round12_w o_round12_writes (by decide) V).trans h.k0, (after_unwritten o_round12_w o_round12_writes (by decide) V).trans h.k1,
    (after_unwritten o_round12_w o_round12_writes (by decide) V).trans h.k2, (after_unwritten o_round12_w o_round12_writes (by decide) V).trans h.p⟩

theorem o_round13_keys {P : FVec F S524288x64 .f32} {V : Valuation τ sig (Elt F)} (h : Keys P V) : Keys P (after o_round13 V) :=
  ⟨(after_unwritten o_round13_w o_round13_writes (by decide) V).trans h.k0, (after_unwritten o_round13_w o_round13_writes (by decide) V).trans h.k1,
    (after_unwritten o_round13_w o_round13_writes (by decide) V).trans h.k2, (after_unwritten o_round13_w o_round13_writes (by decide) V).trans h.p⟩

theorem o_round14_keys {P : FVec F S524288x64 .f32} {V : Valuation τ sig (Elt F)} (h : Keys P V) : Keys P (after o_round14 V) :=
  ⟨(after_unwritten o_round14_w o_round14_writes (by decide) V).trans h.k0, (after_unwritten o_round14_w o_round14_writes (by decide) V).trans h.k1,
    (after_unwritten o_round14_w o_round14_writes (by decide) V).trans h.k2, (after_unwritten o_round14_w o_round14_writes (by decide) V).trans h.p⟩

theorem o_round15_keys {P : FVec F S524288x64 .f32} {V : Valuation τ sig (Elt F)} (h : Keys P V) : Keys P (after o_round15 V) :=
  ⟨(after_unwritten o_round15_w o_round15_writes (by decide) V).trans h.k0, (after_unwritten o_round15_w o_round15_writes (by decide) V).trans h.k1,
    (after_unwritten o_round15_w o_round15_writes (by decide) V).trans h.k2, (after_unwritten o_round15_w o_round15_writes (by decide) V).trans h.p⟩

theorem o_round16_keys {P : FVec F S524288x64 .f32} {V : Valuation τ sig (Elt F)} (h : Keys P V) : Keys P (after o_round16 V) :=
  ⟨(after_unwritten o_round16_w o_round16_writes (by decide) V).trans h.k0, (after_unwritten o_round16_w o_round16_writes (by decide) V).trans h.k1,
    (after_unwritten o_round16_w o_round16_writes (by decide) V).trans h.k2, (after_unwritten o_round16_w o_round16_writes (by decide) V).trans h.p⟩

theorem o_round17_keys {P : FVec F S524288x64 .f32} {V : Valuation τ sig (Elt F)} (h : Keys P V) : Keys P (after o_round17 V) :=
  ⟨(after_unwritten o_round17_w o_round17_writes (by decide) V).trans h.k0, (after_unwritten o_round17_w o_round17_writes (by decide) V).trans h.k1,
    (after_unwritten o_round17_w o_round17_writes (by decide) V).trans h.k2, (after_unwritten o_round17_w o_round17_writes (by decide) V).trans h.p⟩

theorem o_round18_keys {P : FVec F S524288x64 .f32} {V : Valuation τ sig (Elt F)} (h : Keys P V) : Keys P (after o_round18 V) :=
  ⟨(after_unwritten o_round18_w o_round18_writes (by decide) V).trans h.k0, (after_unwritten o_round18_w o_round18_writes (by decide) V).trans h.k1,
    (after_unwritten o_round18_w o_round18_writes (by decide) V).trans h.k2, (after_unwritten o_round18_w o_round18_writes (by decide) V).trans h.p⟩

theorem o_round19_keys {P : FVec F S524288x64 .f32} {V : Valuation τ sig (Elt F)} (h : Keys P V) : Keys P (after o_round19 V) :=
  ⟨(after_unwritten o_round19_w o_round19_writes (by decide) V).trans h.k0, (after_unwritten o_round19_w o_round19_writes (by decide) V).trans h.k1,
    (after_unwritten o_round19_w o_round19_writes (by decide) V).trans h.k2, (after_unwritten o_round19_w o_round19_writes (by decide) V).trans h.p⟩

/-- Round 0: turn by 13. -/
theorem round0 {V : Valuation τ sig (Elt F)} {f : S524288x64.Idx → BitVec 32 × BitVec 32}
    (h : Holds (V (main_call1_v6 : DevRef τ sig)) (V (main_call1_v5 : DevRef τ sig)) f) :
    Holds (after o_round0 V (main_call1_v13 : DevRef τ sig)) (after o_round0 V (main_call1_v12 : DevRef τ sig)) fun j => Hash.mix 13 (f j) := by
  have e1 := h.s
  have e2 := h.x
  constructor
  · after_results
    rw [e1, e2]
    rfl
  · after_results
    rw [e1, e2]
    rfl

/-- Round 1: turn by 15. -/
theorem round1 {V : Valuation τ sig (Elt F)} {f : S524288x64.Idx → BitVec 32 × BitVec 32}
    (h : Holds (V (main_call1_v13 : DevRef τ sig)) (V (main_call1_v12 : DevRef τ sig)) f) :
    Holds (after o_round1 V (main_call1_v20 : DevRef τ sig)) (after o_round1 V (main_call1_v19 : DevRef τ sig)) fun j => Hash.mix 15 (f j) := by
  have e1 := h.s
  have e2 := h.x
  constructor
  · after_results
    rw [e1, e2]
    rfl
  · after_results
    rw [e1, e2]
    rfl

/-- Round 2: turn by 26. -/
theorem round2 {V : Valuation τ sig (Elt F)} {f : S524288x64.Idx → BitVec 32 × BitVec 32}
    (h : Holds (V (main_call1_v20 : DevRef τ sig)) (V (main_call1_v19 : DevRef τ sig)) f) :
    Holds (after o_round2 V (main_call1_v27 : DevRef τ sig)) (after o_round2 V (main_call1_v26 : DevRef τ sig)) fun j => Hash.mix 26 (f j) := by
  have e1 := h.s
  have e2 := h.x
  constructor
  · after_results
    rw [e1, e2]
    rfl
  · after_results
    rw [e1, e2]
    rfl

/-- Round 3: turn by 6, then the key words go in. -/
theorem round3 {P : FVec F S524288x64 .f32} {V : Valuation τ sig (Elt F)} {f : S524288x64.Idx → BitVec 32 × BitVec 32} (k : Keys P V)
    (h : Holds (V (main_call1_v27 : DevRef τ sig)) (V (main_call1_v26 : DevRef τ sig)) f) :
    Holds (after o_round3 V (main_call1_v40 : DevRef τ sig)) (after o_round3 V (main_call1_v39 : DevRef τ sig)) fun j => Hash.inj 6 42#32 466689009#32 (f j) := by
  have e1 := h.s
  have e2 := h.x
  have e3 := k.k1
  have e4 := k.k2
  constructor
  · after_results
    rw [e1, e2, e3, e4]
    exact funext fun j => congrArg (((f j).1 + 42#32) + ·) (BitVec.add_assoc ((f j).1 ^^^ Hash.rot 6 (f j).2) 466689008#32 1#32)
  · after_results
    rw [e1, e2, e4]
    exact funext fun j => BitVec.add_assoc ((f j).1 ^^^ Hash.rot 6 (f j).2) 466689008#32 1#32

/-- Round 4: turn by 17. -/
theorem round4 {V : Valuation τ sig (Elt F)} {f : S524288x64.Idx → BitVec 32 × BitVec 32}
    (h : Holds (V (main_call1_v40 : DevRef τ sig)) (V (main_call1_v39 : DevRef τ sig)) f) :
    Holds (after o_round4 V (main_call1_v47 : DevRef τ sig)) (after o_round4 V (main_call1_v46 : DevRef τ sig)) fun j => Hash.mix 17 (f j) := by
  have e1 := h.s
  have e2 := h.x
  constructor
  · after_results
    rw [e1, e2]
    rfl
  · after_results
    rw [e1, e2]
    rfl

/-- Round 5: turn by 29. -/
theorem round5 {V : Valuation τ sig (Elt F)} {f : S524288x64.Idx → BitVec 32 × BitVec 32}
    (h : Holds (V (main_call1_v47 : DevRef τ sig)) (V (main_call1_v46 : DevRef τ sig)) f) :
    Holds (after o_round5 V (main_call1_v54 : DevRef τ sig)) (after o_round5 V (main_call1_v53 : DevRef τ sig)) fun j => Hash.mix 29 (f j) := by
  have e1 := h.s
  have e2 := h.x
  constructor
  · after_results
    rw [e1, e2]
    rfl
  · after_results
    rw [e1, e2]
    rfl

/-- Round 6: turn by 16. -/
theorem round6 {V : Valuation τ sig (Elt F)} {f : S524288x64.Idx → BitVec 32 × BitVec 32}
    (h : Holds (V (main_call1_v54 : DevRef τ sig)) (V (main_call1_v53 : DevRef τ sig)) f) :
    Holds (after o_round6 V (main_call1_v61 : DevRef τ sig)) (after o_round6 V (main_call1_v60 : DevRef τ sig)) fun j => Hash.mix 16 (f j) := by
  have e1 := h.s
  have e2 := h.x
  constructor
  · after_results
    rw [e1, e2]
    rfl
  · after_results
    rw [e1, e2]
    rfl

/-- Round 7: turn by 24, then the key words go in. -/
theorem round7 {P : FVec F S524288x64 .f32} {V : Valuation τ sig (Elt F)} {f : S524288x64.Idx → BitVec 32 × BitVec 32} (k : Keys P V)
    (h : Holds (V (main_call1_v61 : DevRef τ sig)) (V (main_call1_v60 : DevRef τ sig)) f) :
    Holds (after o_round7 V (main_call1_v74 : DevRef τ sig)) (after o_round7 V (main_call1_v73 : DevRef τ sig)) fun j => Hash.inj 24 466689008#32 2#32 (f j) := by
  have e1 := h.s
  have e2 := h.x
  have e3 := k.k2
  have e4 := k.k0
  constructor
  · after_results
    rw [e1, e2, e3, e4]
    exact funext fun j => congrArg (((f j).1 + 466689008#32) + ·) (BitVec.add_assoc ((f j).1 ^^^ Hash.rot 24 (f j).2) 0#32 2#32)
  · after_results
    rw [e1, e2, e4]
    exact funext fun j => BitVec.add_assoc ((f j).1 ^^^ Hash.rot 24 (f j).2) 0#32 2#32

/-- Round 8: turn by 13. -/
theorem round8 {V : Valuation τ sig (Elt F)} {f : S524288x64.Idx → BitVec 32 × BitVec 32}
    (h : Holds (V (main_call1_v74 : DevRef τ sig)) (V (main_call1_v73 : DevRef τ sig)) f) :
    Holds (after o_round8 V (main_call1_v81 : DevRef τ sig)) (after o_round8 V (main_call1_v80 : DevRef τ sig)) fun j => Hash.mix 13 (f j) := by
  have e1 := h.s
  have e2 := h.x
  constructor
  · after_results
    rw [e1, e2]
    rfl
  · after_results
    rw [e1, e2]
    rfl

/-- Round 9: turn by 15. -/
theorem round9 {V : Valuation τ sig (Elt F)} {f : S524288x64.Idx → BitVec 32 × BitVec 32}
    (h : Holds (V (main_call1_v81 : DevRef τ sig)) (V (main_call1_v80 : DevRef τ sig)) f) :
    Holds (after o_round9 V (main_call1_v88 : DevRef τ sig)) (after o_round9 V (main_call1_v87 : DevRef τ sig)) fun j => Hash.mix 15 (f j) := by
  have e1 := h.s
  have e2 := h.x
  constructor
  · after_results
    rw [e1, e2]
    rfl
  · after_results
    rw [e1, e2]
    rfl

/-- Round 10: turn by 26. -/
theorem round10 {V : Valuation τ sig (Elt F)} {f : S524288x64.Idx → BitVec 32 × BitVec 32}
    (h : Holds (V (main_call1_v88 : DevRef τ sig)) (V (main_call1_v87 : DevRef τ sig)) f) :
    Holds (after o_round10b (after o_round10a V) (main_call1_v95 : DevRef τ sig)) (after o_round10b (after o_round10a V) (main_call1_v94 : DevRef τ sig)) fun j => Hash.mix 26 (f j) := by
  have e1 := h.s
  have e2 := h.x
  constructor
  · after_results
    rw [e1, e2]
    rfl
  · after_results
    rw [e1, e2]
    rfl

/-- Round 11: turn by 6, then the key words go in. -/
theorem round11 {P : FVec F S524288x64 .f32} {V : Valuation τ sig (Elt F)} {f : S524288x64.Idx → BitVec 32 × BitVec 32} (k : Keys P V)
    (h : Holds (V (main_call1_v95 : DevRef τ sig)) (V (main_call1_v94 : DevRef τ sig)) f) :
    Holds (after o_round11 V (main_call1_v108 : DevRef τ sig)) (after o_round11 V (main_call1_v107 : DevRef τ sig)) fun j => Hash.inj 6 0#32 45#32 (f j) := by
  have e1 := h.s
  have e2 := h.x
  have e3 := k.k0
  have e4 := k.k1
  constructor
  · after_results
    rw [e1, e2, e3, e4]
    exact funext fun j => congrArg (((f j).1 + 0#32) + ·) (BitVec.add_assoc ((f j).1 ^^^ Hash.rot 6 (f j).2) 42#32 3#32)
  · after_results
    rw [e1, e2, e4]
    exact funext fun j => BitVec.add_assoc ((f j).1 ^^^ Hash.rot 6 (f j).2) 42#32 3#32

/-- Round 12: turn by 17. -/
theorem round12 {V : Valuation τ sig (Elt F)} {f : S524288x64.Idx → BitVec 32 × BitVec 32}
    (h : Holds (V (main_call1_v108 : DevRef τ sig)) (V (main_call1_v107 : DevRef τ sig)) f) :
    Holds (after o_round12 V (main_call1_v115 : DevRef τ sig)) (after o_round12 V (main_call1_v114 : DevRef τ sig)) fun j => Hash.mix 17 (f j) := by
  have e1 := h.s
  have e2 := h.x
  constructor
  · after_results
    rw [e1, e2]
    rfl
  · after_results
    rw [e1, e2]
    rfl

/-- Round 13: turn by 29. -/
theorem round13 {V : Valuation τ sig (Elt F)} {f : S524288x64.Idx → BitVec 32 × BitVec 32}
    (h : Holds (V (main_call1_v115 : DevRef τ sig)) (V (main_call1_v114 : DevRef τ sig)) f) :
    Holds (after o_round13 V (main_call1_v122 : DevRef τ sig)) (after o_round13 V (main_call1_v121 : DevRef τ sig)) fun j => Hash.mix 29 (f j) := by
  have e1 := h.s
  have e2 := h.x
  constructor
  · after_results
    rw [e1, e2]
    rfl
  · after_results
    rw [e1, e2]
    rfl

/-- Round 14: turn by 16. -/
theorem round14 {V : Valuation τ sig (Elt F)} {f : S524288x64.Idx → BitVec 32 × BitVec 32}
    (h : Holds (V (main_call1_v122 : DevRef τ sig)) (V (main_call1_v121 : DevRef τ sig)) f) :
    Holds (after o_round14 V (main_call1_v129 : DevRef τ sig)) (after o_round14 V (main_call1_v128 : DevRef τ sig)) fun j => Hash.mix 16 (f j) := by
  have e1 := h.s
  have e2 := h.x
  constructor
  · after_results
    rw [e1, e2]
    rfl
  · after_results
    rw [e1, e2]
    rfl

/-- Round 15: turn by 24, then the key words go in. -/
theorem round15 {P : FVec F S524288x64 .f32} {V : Valuation τ sig (Elt F)} {f : S524288x64.Idx → BitVec 32 × BitVec 32} (k : Keys P V)
    (h : Holds (V (main_call1_v129 : DevRef τ sig)) (V (main_call1_v128 : DevRef τ sig)) f) :
    Holds (after o_round15 V (main_call1_v142 : DevRef τ sig)) (after o_round15 V (main_call1_v141 : DevRef τ sig)) fun j => Hash.inj 24 42#32 466689012#32 (f j) := by
  have e1 := h.s
  have e2 := h.x
  have e3 := k.k1
  have e4 := k.k2
  constructor
  · after_results
    rw [e1, e2, e3, e4]
    exact funext fun j => congrArg (((f j).1 + 42#32) + ·) (BitVec.add_assoc ((f j).1 ^^^ Hash.rot 24 (f j).2) 466689008#32 4#32)
  · after_results
    rw [e1, e2, e4]
    exact funext fun j => BitVec.add_assoc ((f j).1 ^^^ Hash.rot 24 (f j).2) 466689008#32 4#32

/-- Round 16: turn by 13. -/
theorem round16 {V : Valuation τ sig (Elt F)} {f : S524288x64.Idx → BitVec 32 × BitVec 32}
    (h : Holds (V (main_call1_v142 : DevRef τ sig)) (V (main_call1_v141 : DevRef τ sig)) f) :
    Holds (after o_round16 V (main_call1_v149 : DevRef τ sig)) (after o_round16 V (main_call1_v148 : DevRef τ sig)) fun j => Hash.mix 13 (f j) := by
  have e1 := h.s
  have e2 := h.x
  constructor
  · after_results
    rw [e1, e2]
    rfl
  · after_results
    rw [e1, e2]
    rfl

/-- Round 17: turn by 15. -/
theorem round17 {V : Valuation τ sig (Elt F)} {f : S524288x64.Idx → BitVec 32 × BitVec 32}
    (h : Holds (V (main_call1_v149 : DevRef τ sig)) (V (main_call1_v148 : DevRef τ sig)) f) :
    Holds (after o_round17 V (main_call1_v156 : DevRef τ sig)) (after o_round17 V (main_call1_v155 : DevRef τ sig)) fun j => Hash.mix 15 (f j) := by
  have e1 := h.s
  have e2 := h.x
  constructor
  · after_results
    rw [e1, e2]
    rfl
  · after_results
    rw [e1, e2]
    rfl

/-- Round 18: turn by 26. -/
theorem round18 {V : Valuation τ sig (Elt F)} {f : S524288x64.Idx → BitVec 32 × BitVec 32}
    (h : Holds (V (main_call1_v156 : DevRef τ sig)) (V (main_call1_v155 : DevRef τ sig)) f) :
    Holds (after o_round18 V (main_call1_v163 : DevRef τ sig)) (after o_round18 V (main_call1_v162 : DevRef τ sig)) fun j => Hash.mix 26 (f j) := by
  have e1 := h.s
  have e2 := h.x
  constructor
  · after_results
    rw [e1, e2]
    rfl
  · after_results
    rw [e1, e2]
    rfl

/-- The last round: turn by 6, then the key words go in. -/
theorem round19 {P : FVec F S524288x64 .f32} {V : Valuation τ sig (Elt F)} {f : S524288x64.Idx → BitVec 32 × BitVec 32} (k : Keys P V)
    (h : Holds (V (main_call1_v163 : DevRef τ sig)) (V (main_call1_v162 : DevRef τ sig)) f) :
    xori (after o_round19 V (main_v42_0 : DevRef τ sig) : IVec S524288x64 32) (after o_round19 V (main_v42_1 : DevRef τ sig) : IVec S524288x64 32) = fun j => Hash.fin 6 466689008#32 5#32 (f j) := by
  have e1 := h.s
  have e2 := h.x
  have e3 := k.k2
  have e4 := k.k0
  after_results
  rw [e1, e2, e3, e4]
  exact funext fun j => congrArg (((f j).1 + 466689008#32) ^^^ ·) (BitVec.add_assoc ((f j).1 ^^^ Hash.rot 6 (f j).2) 0#32 5#32)

/-- The twenty rounds: from the state (c, c) they leave the random word, and keep the probabilities. -/
theorem rounds {P : FVec F S524288x64 .f32} {V : Valuation τ sig (Elt F)} {c : S524288x64.Idx → BitVec 32} (k0 : Keys P V)
    (h0 : Holds (V (main_call1_v6 : DevRef τ sig)) (V (main_call1_v5 : DevRef τ sig)) fun j => (c j, c j)) :
    xori (after o_round19 (after o_round18 (after o_round17 (after o_round16 (after o_round15 (after o_round14 (after o_round13 (after o_round12 (after o_round11 (after o_round10b (after o_round10a (after o_round9 (after o_round8 (after o_round7 (after o_round6 (after o_round5 (after o_round4 (after o_round3 (after o_round2 (after o_round1 (after o_round0 V)))))))))))))))))))) (main_v42_0 : DevRef τ sig) : IVec S524288x64 32)
        (after o_round19 (after o_round18 (after o_round17 (after o_round16 (after o_round15 (after o_round14 (after o_round13 (after o_round12 (after o_round11 (after o_round10b (after o_round10a (after o_round9 (after o_round8 (after o_round7 (after o_round6 (after o_round5 (after o_round4 (after o_round3 (after o_round2 (after o_round1 (after o_round0 V)))))))))))))))))))) (main_v42_1 : DevRef τ sig) : IVec S524288x64 32) = (fun j => Hash.word (c j))
      ∧ after o_round19 (after o_round18 (after o_round17 (after o_round16 (after o_round15 (after o_round14 (after o_round13 (after o_round12 (after o_round11 (after o_round10b (after o_round10a (after o_round9 (after o_round8 (after o_round7 (after o_round6 (after o_round5 (after o_round4 (after o_round3 (after o_round2 (after o_round1 (after o_round0 V)))))))))))))))))))) (main_v19 : DevRef τ sig) = P := by
  have h1 := round0 h0
  have k1 := o_round0_keys k0
  have h2 := round1 h1
  have k2 := o_round1_keys k1
  have h3 := round2 h2
  have k3 := o_round2_keys k2
  have h4 := round3 k3 h3
  have k4 := o_round3_keys k3
  have h5 := round4 h4
  have k5 := o_round4_keys k4
  have h6 := round5 h5
  have k6 := o_round5_keys k5
  have h7 := round6 h6
  have k7 := o_round6_keys k6
  have h8 := round7 k7 h7
  have k8 := o_round7_keys k7
  have h9 := round8 h8
  have k9 := o_round8_keys k8
  have h10 := round9 h9
  have k10 := o_round9_keys k9
  have h11 := round10 h10
  have k11 := o_round10b_keys (o_round10a_keys k10)
  have h12 := round11 k11 h11
  have k12 := o_round11_keys k11
  have h13 := round12 h12
  have k13 := o_round12_keys k12
  have h14 := round13 h13
  have k14 := o_round13_keys k13
  have h15 := round14 h14
  have k15 := o_round14_keys k14
  have h16 := round15 k15 h15
  have k16 := o_round15_keys k15
  have h17 := round16 h16
  have k17 := o_round16_keys k16
  have h18 := round17 h17
  have k18 := o_round17_keys k17
  have h19 := round18 h18
  have k19 := o_round18_keys k18
  have h20 := round19 k19 h19
  have k20 := o_round19_keys k19
  exact ⟨h20, k20.p⟩

end Cert.Proof.Ref

end
-- ==== Proof.RefHead.lean ====
module

public import proofs.«01_k».proof.Proof.RefRounds
public import Idealize.ShloMosaic.PureOps.Ideal.Laws
public import Idealize.ShloMosaic.Lib.Pointwise
public import Idealize.ShloMosaic.Lib.ValueIdx
public import Idealize.ShloMosaic.Lib.Pipeline.Value

/-!
# The reference's schedule and transition table

The value the schedule has at the step, the table built from it, and the row of the table that a state picks.
-/

@[expose] public section
noncomputable section
namespace Cert.Proof.Ref

open Cert.ReferenceIdeal Cert.ReferenceIdeal.Gen
open Idealize.ShloMosaic Idealize.ShloMosaic.TcCoe Idealize.ShloMosaic.StableHlo Idealize.SL.Sem

/-- The schedule's value at the step `t`, negative steps counted from the end. -/
def alpha (l : Fin 1001 → BitVec 32) (t : IVec S_ 32) : EReal :=
  shapeCast S_ (Host.dynamicSlice S1 (fun i => (FloatOps.ofBits (F := Ideal) .f32 (l (S1001.rowMajor i)) : EReal))
    (fun _ => (select (cmpi .slt t (constantI S_ 32 0#32)) (addi t (constantI S_ 32 1001#32)) t (Shape.Idx.first h_S_)).toInt)
    sliceFits_S1001_S1) shapeCasts_S1_S_ ix0

/-- One entry of the transition table. -/
def entry (a : EReal) (m : S64x64.Idx → EReal) (i k : Fin 64) : EReal :=
  a * (if i = k then 1 else 0) + (1 - a) * m (ix2 i k)

/-- The operations up to the step's position in the schedule. -/
abbrev alphaHead : List (HloOp τ sig (Elt Ideal)) :=
  [ nullary main_cst (fun i => FloatOps.ofBits (F := Ideal) .f32 (lit0 (S1001.rowMajor i))),
    nullary main_c (constantI S_ 32 0#32),
    binary main_arg2 main_c main_v0 (cmpi .slt : (⟨S_, .i32⟩ : BufTy).Contents (Elt Ideal) → (⟨S_, .i32⟩ : BufTy).Contents (Elt Ideal) → (⟨S_, .i1⟩ : BufTy).Contents (Elt Ideal)),
    nullary main_c_0 (constantI S_ 32 1001#32),
    binary main_arg2 main_c_0 main_v1 (addi : (⟨S_, .i32⟩ : BufTy).Contents (Elt Ideal) → (⟨S_, .i32⟩ : BufTy).Contents (Elt Ideal) → (⟨S_, .i32⟩ : BufTy).Contents (Elt Ideal)),
    ternary main_v0 main_v1 main_arg2 main_v2 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) ]

/-- The operations reading the schedule at that position. -/
abbrev alphaTail : List (HloOp τ sig (Elt Ideal)) :=
  [ unaryIndexed main_cst ![main_v2] ⟨S_, .i32⟩ main_v3 ((fun x i => Host.dynamicSlice S1 x (fun k => (i k (Shape.Idx.first h_S_)).toInt) sliceFits_S1001_S1) : (⟨S1001, .f32⟩ : BufTy).Contents (Elt Ideal) → (Fin 1 → (⟨S_, .i32⟩ : BufTy).Contents (Elt Ideal)) → (⟨S1, .f32⟩ : BufTy).Contents (Elt Ideal)),
    reshape main_v3 main_v4 (rfl : (.f32 : EltTy) = .f32) shapeCasts_S1_S_ ]

/-- The step's position, negative steps counted from the end. -/
theorem alphaHead_pos (V : Valuation τ sig (Elt Ideal)) {t : IVec S_ 32} (ht : V (main_arg2 : DevRef τ sig) = t) :
    after alphaHead V (main_v2 : DevRef τ sig) =
      (select (cmpi .slt t (constantI S_ 32 0#32)) (addi t (constantI S_ 32 1001#32)) t : IVec S_ 32) := by
  after_results
  rw [ht]

/-- The schedule. -/
theorem alphaHead_lit (V : Valuation τ sig (Elt Ideal)) :
    after alphaHead V (main_cst : DevRef τ sig) = (fun i => FloatOps.ofBits (F := Ideal) .f32 (lit0 (S1001.rowMajor i)) : FVec Ideal S1001 .f32) := by
  after_results
  rfl

/-- The schedule read at a position. -/
theorem alphaTail_read (V : Valuation τ sig (Elt Ideal)) {p : IVec S_ 32} {x : FVec Ideal S1001 .f32}
    (hp : V (main_v2 : DevRef τ sig) = p) (hx : V (main_cst : DevRef τ sig) = x) :
    after alphaTail V (main_v4 : DevRef τ sig) =
      (shapeCast S_ (Host.dynamicSlice S1 x (fun _ => (p (Shape.Idx.first h_S_)).toInt) sliceFits_S1001_S1) shapeCasts_S1_S_ : FVec Ideal S_ .f32) := by
  subst hp hx
  after_results
  funext i
  refine congrArg (fun f : Fin 1 → Int => (shapeCast S_ (Host.dynamicSlice S1 (V (main_cst : DevRef τ sig) : FVec Ideal S1001 .f32) f sliceFits_S1001_S1) shapeCasts_S1_S_ : FVec Ideal S_ .f32) i) (funext fun k => ?_)
  obtain rfl : k = 0 := Subsingleton.elim _ _
  rfl

/-- The schedule's stretch leaves the step's value. -/
theorem alpha_read (V : Valuation τ sig (Elt Ideal)) {t : IVec S_ 32} (ht : V (main_arg2 : DevRef τ sig) = t) :
    after o_alpha V (main_v4 : DevRef τ sig) = (fun _ => alpha lit0 t : FVec Ideal S_ .f32) := by
  show after (alphaHead ++ alphaTail) V _ = _
  rw [after_append, alphaTail_read _ (alphaHead_pos V ht) (alphaHead_lit V)]
  funext j
  have e : j = (ix0 : S_.Idx) := funext fun x => x.elim0
  rw [e, alpha]

/-- Numbers below 64 have different words. -/
theorem ofNat_inj (i k : Fin 64) : BitVec.ofNat 32 i.val = BitVec.ofNat 32 k.val ↔ i = k := by
  refine ⟨fun h => Fin.ext ?_, fun h => h ▸ rfl⟩
  have := congrArg BitVec.toNat h
  simp only [BitVec.toNat_ofNat] at this
  omega

/-- The comparison's bit. -/
theorem cmpi_eq_ite (a b : BitVec 32) : IntOp.cmpi .eq a b = if a = b then 1#1 else 0#1 := by
  unfold IntOp.cmpi
  by_cases h : a = b
  · simp [h]
  · rw [if_neg h]; show BitVec.ofBool (a == b) = 0#1; rw [beq_eq_false_iff_ne.2 h]; rfl

/-- The bit as a number. -/
theorem uitofp_ite (p : Prop) [Decidable p] :
    (FloatOps.uitofp (F := Ideal) FTy.f32 (if p then 1#1 else 0#1) : EReal) = if p then 1 else 0 := by
  show (((if p then 1#1 else 0#1 : BitVec 1).toNat : ℝ) : EReal) = _
  split <;> simp

/-- The identity table's bit. -/
theorem eyeWord (i k : Fin 64) :
    IntOp.cmpi .eq (IntOp.addi (BitVec.ofNat 32 i.val) 0#32) (BitVec.ofNat 32 k.val) = if i = k then 1#1 else 0#1 := by
  rw [show IntOp.addi (BitVec.ofNat 32 i.val) 0#32 = BitVec.ofNat 32 i.val from BitVec.add_zero _, cmpi_eq_ite]
  exact if_congr (ofNat_inj i k) rfl rfl

/-- The table's stretch leaves the transition table. -/
theorem table_read (V : Valuation τ sig (Elt Ideal)) {a : EReal} {m : FVec Ideal S64x64 .f32}
    (ha : V (main_v4 : DevRef τ sig) = (fun _ => a : FVec Ideal S_ .f32)) (hm : V (main_arg1 : DevRef τ sig) = m) :
    after o_table V (main_v16 : DevRef τ sig) = (fun j => entry a m (j 0) (j 1) : FVec Ideal S64x64 .f32) := by
  after_results
  funext j
  obtain ⟨i, k, rfl⟩ : ∃ i k, j = ix2 i k := ⟨j 0, j 1, eq_ix2 _⟩
  simp only [pointwise, ha, hm]
  show a * FloatOps.uitofp (F := Ideal) FTy.f32 (IntOp.cmpi .eq (IntOp.addi (BitVec.ofNat 32 i.val) 0#32) (BitVec.ofNat 32 k.val)) + (1 - a) * m (ix2 i k) = _
  rw [eyeWord, uitofp_ite]
  rfl

/-- The row's word picks the row of the table. -/
theorem prob_read (V : Valuation τ sig (Elt Ideal)) {z : IVec S524288x1 32} {q : FVec Ideal S64x64 .f32}
    (hz : V (main_arg0 : DevRef τ sig) = z) (hq : V (main_v16 : DevRef τ sig) = q) :
    after o_prob V (main_v19 : DevRef τ sig) =
      (fun j => ∑ k : Fin 64, (if z (ix2 (j 0) 0) = BitVec.ofNat 32 k.val then 1 else 0) * q (ix2 k (j 1)) : FVec Ideal S524288x64 .f32) := by
  after_results
  funext j
  simp only [pointwise, hz, hq]
  rw [zero_add]
  refine Finset.sum_congr rfl fun k _ => ?_
  congr 1
  show FloatOps.uitofp (F := Ideal) FTy.f32 (IntOp.cmpi .eq (z (ix2 (j 0) 0)) (BitVec.ofNat 32 k.val)) = _
  rw [cmpi_eq_ite, uitofp_ite]

end Cert.Proof.Ref
end
-- ==== Proof.Pick.lean ====
module

public import Idealize.ShloMosaic.PureOps.Ideal
public import Idealize.ShloMosaic.PureOps.Ideal.Laws
public import Idealize.ShloMosaic.PureOps.Reduce
public import proofs.«01_k».proof.ReferenceIdeal
public import proofs.«01_k».proof.Proof.Gen.ReferenceIdeal

@[expose] public section

noncomputable section

/-! The first greatest entry of a row: the kernel's index reduction and the reference's pair reduction both find it. -/

namespace Cert.Proof.Pick

open Idealize.ShloMosaic

/-- `k` is the first place at which `f` is greatest. -/
def Best {n : ℕ} (f : Fin n → EReal) (k : Fin n) : Prop := (∀ k', f k' ≤ f k) ∧ ∀ k', f k' = f k → k ≤ k'

/-- There is at most one such place. -/
theorem Best.unique {n : ℕ} {f : Fin n → EReal} {k l : Fin n} (hk : Best f k) (hl : Best f l) : k = l := by
  have e : f k = f l := le_antisymm (hl.1 k) (hk.1 l)
  exact le_antisymm (hk.2 l e.symm) (hl.2 k e)

/-- The kernel's index reduction along axis `a` answers the first greatest place of the row. -/
theorem reduceIndex_of_best {s t : Shape} {a : Fin s.rank} (h : s.Reduces [a] t) (x : s.Idx → EReal) (j : t.Idx)
    {k : Fin (s.size a)} (hb : Best (fun k => x (h.lift j k)) k) :
    Ideal.reduceIndex .argMax a h x j = BitVec.ofNat 32 k.val := by
  classical
  have hax : ∀ k : Fin (s.size a), (h.lift j k a).val = k.val := fun k => by
    rw [Shape.Reduces.lift_val]; simp [Shape.Reduces.liftVal]
  have hfib : ∀ i : s.Idx, h.drop i = j → i = h.lift j (i a) := fun i hi => by rw [← hi, h.lift_drop]
  unfold Ideal.reduceIndex
  simp only [if_true]
  refine congrArg (BitVec.ofNat 32) ?_
  have e : (((Finset.univ.filter (fun i : s.Idx => h.drop i = j)).filter fun i =>
      ∀ i' ∈ Finset.univ.filter (fun i : s.Idx => h.drop i = j), ¬ x i < x i').image fun i => (i a).val).min
        = ((k.val : ℕ) : WithTop ℕ) := by
    apply le_antisymm
    · apply Finset.min_le
      refine Finset.mem_image.2 ⟨h.lift j k, ?_, hax k⟩
      refine Finset.mem_filter.2 ⟨Finset.mem_filter.2 ⟨Finset.mem_univ _, h.drop_lift j k⟩, fun i' hi' => ?_⟩
      rw [hfib i' (Finset.mem_filter.1 hi').2]
      exact not_lt.2 (hb.1 _)
    · apply Finset.le_min
      intro n hn
      obtain ⟨i, hi, rfl⟩ := Finset.mem_image.1 hn
      have h1 := Finset.mem_filter.1 hi
      have h2 := (Finset.mem_filter.1 h1.1).2
      have h3 := h1.2 (h.lift j k) (Finset.mem_filter.2 ⟨Finset.mem_univ _, h.drop_lift j k⟩)
      have h4 : x (h.lift j (i a)) = x (h.lift j k) := by
        refine le_antisymm (hb.1 _) ?_
        rw [← hfib i h2]; exact not_lt.1 h3
      exact WithTop.coe_le_coe.2 (Fin.le_def.1 (hb.2 (i a) h4))
  refine (congrArg (fun o : WithTop ℕ => Option.getD o 0) ?_).trans (show Option.getD ((k.val : ℕ) : WithTop ℕ) 0 = k.val from rfl)
  convert e using 3

/-- The reference's choice between two pairs, written out. -/
theorem choose_eq (p q : EReal × BitVec 32) :
    Cert.ReferenceIdeal.reducer_argmax_f32_i32 (F := Ideal) p q
      = if q.1 < p.1 ∨ (p.1 = q.1 ∧ p.2.slt q.2) then p else q := by
  unfold Cert.ReferenceIdeal.reducer_argmax_f32_i32
  simp only [Ideal.cmpf_def, Ideal.cmp, IntOp.cmpi, IntOp.ori, IntOp.andi, Scalar.select]
  rcases lt_trichotomy p.1 q.1 with h | h | h
  · have h1 : ¬ q.1 < p.1 := not_lt.2 h.le
    have h2 : p.1 ≠ q.1 := h.ne
    simp [h1, h2]
  · have h1 : ¬ q.1 < p.1 := by rw [h]; exact lt_irrefl _
    by_cases h2 : p.2.slt q.2
    · simp [h, h2]; exact Prod.ext h.symm rfl
    · simp [h, h2]
  · have h1 : p.1 ≠ q.1 := h.ne'
    simp [h, h1]

/-- Folding that choice over a list leaves a pair of it whose value is greatest, and whose index is least among
those of the greatest value. -/
theorem fold_spec (l : List (EReal × BitVec 32)) (p : EReal × BitVec 32) :
    l.foldl (Cert.ReferenceIdeal.reducer_argmax_f32_i32 (F := Ideal)) p ∈ p :: l
      ∧ (∀ q ∈ p :: l, q.1 ≤ (l.foldl (Cert.ReferenceIdeal.reducer_argmax_f32_i32 (F := Ideal)) p).1)
      ∧ ∀ q ∈ p :: l, q.1 = (l.foldl (Cert.ReferenceIdeal.reducer_argmax_f32_i32 (F := Ideal)) p).1 →
          (l.foldl (Cert.ReferenceIdeal.reducer_argmax_f32_i32 (F := Ideal)) p).2.toInt ≤ q.2.toInt := by
  induction l generalizing p with
  | nil => simp
  | cons b l ih =>
    obtain ⟨i1, i2, i3⟩ := ih (Cert.ReferenceIdeal.reducer_argmax_f32_i32 (F := Ideal) p b)
    rw [List.foldl_cons]
    set r := l.foldl (Cert.ReferenceIdeal.reducer_argmax_f32_i32 (F := Ideal)) (Cert.ReferenceIdeal.reducer_argmax_f32_i32 (F := Ideal) p b) with hr
    have hc := choose_eq p b
    have m1 := i2 _ List.mem_cons_self
    have m2 := i3 _ List.mem_cons_self
    have slt : ∀ a c : BitVec 32, a.slt c ↔ a.toInt < c.toInt := fun a c => by simp [BitVec.slt]
    refine ⟨?_, ?_, ?_⟩
    · rcases List.mem_cons.1 i1 with h | h
      · rw [h, hc]; split <;> simp
      · exact List.mem_cons_of_mem _ (List.mem_cons_of_mem _ h)
    · intro q hq
      rcases List.mem_cons.1 hq with rfl | hq
      · refine le_trans ?_ m1
        rw [hc]; split
        · exact le_rfl
        · next hn => exact not_lt.1 fun h => hn (.inl h)
      · rcases List.mem_cons.1 hq with rfl | hq
        · refine le_trans ?_ m1
          rw [hc]; split
          · next hp => rcases hp with h | h
                       · exact h.le
                       · exact h.1.ge
          · exact le_rfl
        · exact i2 q (List.mem_cons_of_mem _ hq)
    · intro q hq he
      rcases List.mem_cons.1 hq with rfl | hq
      · rw [hc] at m1 m2
        split at m1
        · next hp => rw [if_pos hp] at m2; exact m2 he
        · next hp =>
          rw [if_neg hp] at m2
          have hle : b.1 ≤ q.1 := he ▸ m1
          have hge : q.1 ≤ b.1 := not_lt.1 fun h => hp (.inl h)
          have e : q.1 = b.1 := le_antisymm hge hle
          have := m2 (e ▸ he)
          have h2 : ¬ q.2.toInt < b.2.toInt := fun h => hp (.inr ⟨e, (slt _ _).2 h⟩)
          omega
      · rcases List.mem_cons.1 hq with rfl | hq
        · rw [hc] at m1 m2
          split at m1
          · next hp =>
            rw [if_pos hp] at m2
            rcases hp with h | h
            · exact absurd (lt_of_lt_of_le h m1) (by rw [he]; exact lt_irrefl _)
            · have := m2 (h.1.trans he)
              have := (slt _ _).1 h.2
              omega
          · next hp => rw [if_neg hp] at m2; exact m2 he
        · exact i3 q (List.mem_cons_of_mem _ hq) he

/-- The reference's reduction over a row whose indices are the places answers the first greatest place. -/
theorem argReduce_best {s t u : Shape} {a : Fin s.rank} (h' : s.ReducesTo [a] t) (h : s.Reduces [a] t)
    (x : FVec Ideal s .f32) (y : IVec s 32) (ix : FVec Ideal u .f32) (iy : IVec u 32) (hu : 0 < u.numel) (j : t.Idx)
    (hs : 0 < s.size a) (hs' : s.size a < 2 ^ 31)
    (hy : ∀ k, y (h.lift j k) = BitVec.ofNat 32 k.val) (hx : ix (Shape.Idx.first hu) = (⊥ : EReal)) (hi : iy (Shape.Idx.first hu) = 0#32) :
    ∃ k, Best (fun k => x (h.lift j k)) k
      ∧ (Host.argReduce (Cert.ReferenceIdeal.reducer_argmax_f32_i32 (F := Ideal)) x y ix iy h' hu j).2 = BitVec.ofNat 32 k.val := by
  rw [Ideal.argReduce_eq_reduce2, Host.reduce2_eq_foldl_fiber, hx, hi]
  set l := Host.argReduceFiber x y h' j with hl
  have hmem : ∀ q : EReal × BitVec 32, q ∈ l ↔ ∃ k, q = (x (h.lift j k), BitVec.ofNat 32 k.val) := by
    intro q
    rw [hl, Host.argReduceFiber]
    constructor
    · intro hq
      obtain ⟨n, hn, rfl⟩ := List.mem_map.1 hq
      have hd : h.drop (s.rowMajor.symm n) = j := by
        have := of_decide_eq_true (List.mem_filter.1 hn).2
        exact this
      refine ⟨(s.rowMajor.symm n) a, ?_⟩
      have e : s.rowMajor.symm n = h.lift j ((s.rowMajor.symm n) a) := by rw [← hd, h.lift_drop]
      rw [← hy, ← e]
    · rintro ⟨k, rfl⟩
      refine List.mem_map.2 ⟨s.rowMajor (h.lift j k), List.mem_filter.2 ⟨List.mem_finRange _, ?_⟩, ?_⟩
      · rw [Equiv.symm_apply_apply, h'.drop_eq_drop h, h.drop_lift]; simp
      · rw [Equiv.symm_apply_apply, hy]
  have tn : ∀ k : Fin (s.size a), (BitVec.ofNat 32 k.val).toInt = k.val := fun k => by
    have := k.isLt
    rw [BitVec.toInt_eq_toNat_of_lt (by rw [BitVec.toNat_ofNat]; omega), BitVec.toNat_ofNat, Nat.mod_eq_of_lt (by omega)]
  obtain ⟨r1, r2, r3⟩ := fold_spec l ((⊥ : EReal), 0#32)
  set r := l.foldl (Cert.ReferenceIdeal.reducer_argmax_f32_i32 (F := Ideal)) ((⊥ : EReal), 0#32) with hr
  have hk : ∃ k : Fin (s.size a), r = (x (h.lift j k), BitVec.ofNat 32 k.val) := by
    rcases List.mem_cons.1 r1 with e | e
    · refine ⟨⟨0, hs⟩, ?_⟩
      have := r2 _ (List.mem_cons_of_mem _ ((hmem _).2 ⟨⟨0, hs⟩, rfl⟩))
      rw [e] at this ⊢
      exact Prod.ext (le_bot_iff.1 this).symm rfl
    · exact (hmem r).1 e
  obtain ⟨k, hk⟩ := hk
  refine ⟨k, ⟨fun k' => ?_, fun k' e => ?_⟩, by rw [hk]⟩
  · have := r2 _ (List.mem_cons_of_mem _ ((hmem _).2 ⟨k', rfl⟩))
    rwa [hk] at this
  · have := r3 _ (List.mem_cons_of_mem _ ((hmem _).2 ⟨k', rfl⟩)) (by rw [hk]; exact e)
    rw [hk] at this
    rw [tn, tn] at this
    exact Fin.le_def.2 (by exact_mod_cast this)

end Cert.Proof.Pick

end
-- ==== Proof.RefTail.lean ====
module

public import proofs.«01_k».proof.Proof.RefHead
public import proofs.«01_k».proof.Proof.Pick

/-!
# The reference's keys, counters, noise, scores and choice

Each theorem states what one stretch of the reference leaves, over the extended reals.
-/

@[expose] public section
noncomputable section
namespace Cert.Proof.Ref

open Cert.ReferenceIdeal Cert.ReferenceIdeal.Gen
open Idealize.ShloMosaic Idealize.ShloMosaic.TcCoe Idealize.ShloMosaic.StableHlo Idealize.SL.Sem

/-- The uniform number of a random word: its upper 23 bits over 2²³, the least normal number for none. -/
def uni (b : BitVec 32) : EReal :=
  if b >>> 9 = 0#32 then Ideal.ofBits .f32 0x00800000#32
  else (((b >>> 9).toInt : ℝ) : EReal) * Ideal.ofBits .f32 0x34000000#32

/-- The Gumbel noise of a random word. -/
def gum (b : BitVec 32) : EReal := -Ideal.log (-Ideal.log (uni b))

/-- The reference's small constant under the logarithm. -/
def eps : EReal := Ideal.ofBits .f32 0x2B8CBCCC#32

/-- The random word's counter of the place `k` of the row `n`. -/
def ctr (n k : Nat) : BitVec 32 := BitVec.ofNat 32 (64 * n + k) + 42#32

/-- The probability of the place `k` in the row `n`. -/
def prob (a : EReal) (m : S64x64.Idx → EReal) (z : S524288x1.Idx → BitVec 32) (n : Fin 524288) (k : Fin 64) : EReal :=
  ∑ i : Fin 64, (if z (ix2 n 0) = BitVec.ofNat 32 i.val then 1 else 0) * entry a m i k

/-- The score of the place `k` in the row `n`: its noise and the logarithm of its probability. -/
def score (a : EReal) (m : S64x64.Idx → EReal) (z : S524288x1.Idx → BitVec 32) (n : Fin 524288) (k : Fin 64) : EReal :=
  gum (Hash.word (ctr n.val k.val)) + Ideal.log (prob a m z n k + eps)

/-- The two key words side by side. -/
theorem pair_left (x y : IVec S1 32) (i : S1.Idx) :
    extractStridedSlice S1 ![0] (concatenate S2 0 [⟨S1, x⟩, ⟨S1, y⟩] concatenates_S1_S1_S2_d0) slices_S2_S1_0 i = x i := by
  have e : i = ix1 0 := funext fun b => by obtain rfl : b = 0 := Subsingleton.elim _ _; exact Subsingleton.elim (α := Fin 1) _ _
  subst e
  refine (concatenate_pair_apply_left (t := S2) 0 x y concatenates_S1_S1_S2_d0 _ rfl (ix1 0) fun b => ?_)
  obtain rfl : b = 0 := Subsingleton.elim _ _
  rfl

/-- The second of two joined words. -/
theorem pair_right (x y : IVec S1 32) (i : S1.Idx) :
    extractStridedSlice S1 ![1] (concatenate S2 0 [⟨S1, x⟩, ⟨S1, y⟩] concatenates_S1_S1_S2_d0) slices_S2_S1_1 i = y i := by
  have e : i = ix1 0 := funext fun b => by obtain rfl : b = 0 := Subsingleton.elim _ _; exact Subsingleton.elim (α := Fin 1) _ _
  subst e
  refine (concatenate_pair_apply_right (t := S2) 0 x y concatenates_S1_S1_S2_d0 _ rfl rfl (ix1 0) (fun b hb => ?_) ?_)
  · obtain rfl : b = 0 := Subsingleton.elim _ _
    exact absurd rfl hb
  · rfl

/-- The first key word is 0. -/
theorem keys_k0 (V : Valuation τ sig (Elt Ideal)) :
    after o_keys V (main_v28 : DevRef τ sig) = (fun _ => 0#32 : IVec S_ 32) := by
  after_results
  funext j
  exact (pair_left _ _ _).trans (by rfl)

/-- The second key word is 42. -/
theorem keys_k1 (V : Valuation τ sig (Elt Ideal)) :
    after o_keys V (main_v30 : DevRef τ sig) = (fun _ => 42#32 : IVec S_ 32) := by
  after_results
  funext j
  exact (pair_right _ _ _).trans (show 42#32 &&& 4294967295#32 = 42#32 by decide)

/-- The counter's word of a row and place. -/
theorem count_word (n : Fin 524288) (k : Fin 64) :
    64#64 * BitVec.ofNat 64 n.val + 1#64 * BitVec.ofNat 64 k.val = BitVec.ofNat 64 (64 * n.val + k.val) := by
  apply BitVec.eq_of_toNat_eq
  simp only [BitVec.toNat_add, BitVec.toNat_mul, BitVec.toNat_ofNat]
  omega

/-- The counters' upper words are 0. -/
theorem count_hi (V : Valuation τ sig (Elt Ideal)) :
    after o_count V (main_v41 : DevRef τ sig) = (fun _ => 0#32 : IVec S524288x64 32) := by
  after_results
  funext j
  obtain ⟨n, k, rfl⟩ : ∃ n k, j = ix2 n k := ⟨j 0, j 1, eq_ix2 _⟩
  show ((64#64 * BitVec.ofNat 64 n.val + 1#64 * BitVec.ofNat 64 k.val) >>> 32).setWidth 32 = _
  rw [count_word]
  apply BitVec.eq_of_toNat_eq
  simp only [BitVec.toNat_setWidth, BitVec.toNat_ushiftRight, BitVec.toNat_ofNat, Nat.shiftRight_eq_div_pow]
  have := n.isLt; have := k.isLt
  omega

/-- The counters' lower words count the places row by row. -/
theorem count_lo (V : Valuation τ sig (Elt Ideal)) :
    after o_count V (main_v40 : DevRef τ sig) = (fun j => BitVec.ofNat 32 (64 * (j 0).val + (j 1).val) : IVec S524288x64 32) := by
  after_results
  funext j
  obtain ⟨n, k, rfl⟩ : ∃ n k, j = ix2 n k := ⟨j 0, j 1, eq_ix2 _⟩
  show (64#64 * BitVec.ofNat 64 n.val + 1#64 * BitVec.ofNat 64 k.val).setWidth 32 = BitVec.ofNat 32 (64 * n.val + k.val)
  rw [count_word]
  apply BitVec.eq_of_toNat_eq
  simp only [BitVec.toNat_setWidth, BitVec.toNat_ofNat]
  omega

/-- The hash starts from the counters and the keys. -/
theorem start_keys (V : Valuation τ sig (Elt Ideal)) {P : FVec Ideal S524288x64 .f32}
    (h0 : V (main_v28 : DevRef τ sig) = (fun _ => 0#32 : IVec S_ 32)) (h1 : V (main_v30 : DevRef τ sig) = (fun _ => 42#32 : IVec S_ 32))
    (hp : V (main_v19 : DevRef τ sig) = P) : Keys P (after o_start V) where
  k0 := (after_unwritten o_start_w o_start_writes (by decide) V).trans h0
  k1 := (after_unwritten o_start_w o_start_writes (by decide) V).trans h1
  k2 := by
    after_results
    rw [h0, h1]
    funext j
    show (0#32 ^^^ 42#32) ^^^ 466688986#32 = 466689008#32
    decide
  p := (after_unwritten o_start_w o_start_writes (by decide) V).trans hp

/-- The words before the first round. -/
theorem start_holds (V : Valuation τ sig (Elt Ideal)) {c : S524288x64.Idx → BitVec 32}
    (h0 : V (main_v28 : DevRef τ sig) = (fun _ => 0#32 : IVec S_ 32)) (h1 : V (main_v30 : DevRef τ sig) = (fun _ => 42#32 : IVec S_ 32))
    (hh : V (main_v41 : DevRef τ sig) = (fun _ => 0#32 : IVec S524288x64 32)) (hl : V (main_v40 : DevRef τ sig) = c) :
    Holds (after o_start V (main_call1_v6 : DevRef τ sig)) (after o_start V (main_call1_v5 : DevRef τ sig)) fun j => (c j + 42#32, c j + 42#32) where
  s := by
    after_results
    rw [h0, h1, hh, hl]
    funext j
    show (0#32 + 0#32) + (c j + 42#32) = c j + 42#32
    rw [BitVec.zero_add, BitVec.zero_add]
  x := by
    after_results
    rw [h1, hl]
    rfl

/-- The words' upper bits. -/
theorem drawa_bits (V : Valuation τ sig (Elt Ideal)) {w : S524288x64.Idx → BitVec 32}
    (h : xori (V (main_v42_0 : DevRef τ sig) : IVec S524288x64 32) (V (main_v42_1 : DevRef τ sig) : IVec S524288x64 32) = w) :
    after o_drawa V (main_v46 : DevRef τ sig) = (fun j => w j >>> 9 : IVec S524288x64 32) := by
  subst h
  after_results
  rfl

/-- The zero that the draw compares with. -/
theorem drawa_zero (V : Valuation τ sig (Elt Ideal)) :
    after o_drawa V (main_c_10 : DevRef τ sig) = (fun _ => 0#32 : IVec S_ 32) := by
  after_results
  rfl

/-- The noise of the words. -/
theorem drawb_noise (V : Valuation τ sig (Elt Ideal)) {w : S524288x64.Idx → BitVec 32}
    (h : V (main_v46 : DevRef τ sig) = (fun j => w j >>> 9 : IVec S524288x64 32))
    (hz : V (main_c_10 : DevRef τ sig) = (fun _ => 0#32 : IVec S_ 32)) :
    after o_drawb V (main_v56 : DevRef τ sig) = (fun j => gum (w j) : FVec Ideal S524288x64 .f32) := by
  after_results
  rw [h, hz]
  funext j
  show -Ideal.log (-Ideal.log (Scalar.select (IntOp.cmpi .eq (w j >>> 9) 0#32) (Ideal.ofBits .f32 0x00800000#32)
    ((((w j >>> 9).toInt : ℝ) : EReal) * Ideal.ofBits .f32 0x34000000#32))) = _
  rw [cmpi_eq_ite]
  unfold gum uni
  by_cases h : w j >>> 9 = 0#32
  · rw [if_pos h, if_pos h]; rfl
  · rw [if_neg h, if_neg h]; rfl

/-- The scores. -/
theorem score_read (V : Valuation τ sig (Elt Ideal)) {P G : S524288x64.Idx → EReal}
    (hp : V (main_v19 : DevRef τ sig) = (P : FVec Ideal S524288x64 .f32)) (hg : V (main_v56 : DevRef τ sig) = (G : FVec Ideal S524288x64 .f32)) :
    after o_score V (main_v60 : DevRef τ sig) = (fun j => G j + Ideal.log (P j + eps) : FVec Ideal S524288x64 .f32) := by
  after_results
  rw [hp, hg]
  rfl

/-- The second axis is the one reduced. -/
theorem red : S524288x64.Reduces [1] S524288 := by decide

/-- The choice's stretch reduces every row of the scores. -/
theorem pick_word (V : Valuation τ sig (Elt Ideal)) {f : S524288x64.Idx → EReal}
    (hf : V (main_v60 : DevRef τ sig) = (f : FVec Ideal S524288x64 .f32)) :
    after o_pick V (main_v62 : DevRef τ sig) = (broadcastInDim S524288x1 ![0] bcast_S524288_S524288x1_0
      (fun j => (Host.argReduce (reducer_argmax_f32_i32 (F := Ideal)) f (iotaInDim S524288x64 32 1) (constant (F := Ideal) S_ .f32 0xFF800000#32)
        (constantI S_ 32 0#32) reducesTo_S524288x64_S524288_d1 h_S_ j).2) : IVec S524288x1 32) := by
  subst hf
  after_results
  rfl

/-- A vector as a column. -/
theorem column (g : S524288.Idx → BitVec 32) (n : Fin 524288) :
    broadcastInDim S524288x1 ![0] bcast_S524288_S524288x1_0 g (ix2 n 0) = g (ix1 n) := by
  refine congrArg g (funext fun b => ?_)
  obtain rfl : b = 0 := Subsingleton.elim _ _
  rfl

/-- A row's place among the places of the array. -/
theorem row_lift (n : Fin 524288) (k : Fin (S524288x64.size 1)) : red.lift (ix1 n) k = ix2 n k := by
  funext b
  apply Fin.ext
  rw [Shape.Reduces.lift_val]
  fin_cases b <;> rfl

/-- The word of minus infinity. -/
theorem bot_word : Ideal.ofBits .f32 0xFF800000#32 = ⊥ := by simp [Ideal.ofBits, Ideal.ieee]

/-- The first best place of the row. -/
theorem pick_read (V : Valuation τ sig (Elt Ideal)) {f : S524288x64.Idx → EReal}
    (hf : V (main_v60 : DevRef τ sig) = (f : FVec Ideal S524288x64 .f32)) (n : Fin 524288) :
    ∃ k : Fin 64, Pick.Best (fun k => f (ix2 n k)) k
      ∧ (after o_pick V (main_v62 : DevRef τ sig) : IVec S524288x1 32) (ix2 n 0) = BitVec.ofNat 32 k.val := by
  have hl := row_lift n
  obtain ⟨k, hk, he⟩ := Pick.argReduce_best (u := S_) reducesTo_S524288x64_S524288_d1 red f (iotaInDim S524288x64 32 1) (constant (F := Ideal) S_ .f32 0xFF800000#32)
    (constantI S_ 32 0#32) h_S_ (ix1 n) (by decide) (by decide) (fun k => (congrArg (iotaInDim S524288x64 32 1) (hl k)).trans rfl) bot_word rfl
  refine ⟨k, ?_, ?_⟩
  · have : (fun k => f (red.lift (ix1 n) k)) = fun k => f (ix2 n k) := funext fun k => congrArg f (hl k)
    rwa [this] at hk
  · rw [← he, pick_word V hf]
    exact column _ n

end Cert.Proof.Ref
end
-- ==== Proof.Uniform.lean ====
module

public import proofs.«01_k».proof.Proof.RefTail
public import Idealize.ShloMosaic.Lib.IdealHost

/-!
# One word's uniform number

The kernel puts the word's upper 23 bits under the exponent of 1 and takes 1 away; the reference multiplies them by 2⁻²³.
-/

@[expose] public section
noncomputable section
namespace Cert.Proof.Uniform

open Idealize.ShloMosaic

/-- The least normal number. -/
theorem tiny_value : Ideal.ofBits .f32 0x00800000#32 = (((2 : ℝ) ^ (-126 : Int) : ℝ) : EReal) := by
  simp [Ideal.ofBits, Ideal.ieee, -EReal.coe_mul, -EReal.coe_add]
  norm_num [-EReal.coe_mul, -EReal.coe_add]

/-- The spacing of the fractions. -/
theorem step_value : Ideal.ofBits .f32 0x34000000#32 = (((2 : ℝ) ^ (-23 : Int) : ℝ) : EReal) := by
  simp [Ideal.ofBits, Ideal.ieee, -EReal.coe_mul, -EReal.coe_add]
  norm_num [-EReal.coe_mul, -EReal.coe_add]

/-- The number whose fraction is `x`, between 1 and 2. -/
theorem mantissa_value (x : BitVec 32) (hx : x.toNat < 2 ^ 23) :
    Ideal.ofBits .f32 (x ||| 0x3F800000#32) = ((1 + (x.toNat : ℝ) * (2 : ℝ) ^ (-23 : Int) : ℝ) : EReal) := by
  have h1 : (x ||| 0x3F800000#32).extractLsb' 31 1 = 0#1 := by
    apply BitVec.eq_of_toNat_eq
    rw [BitVec.extractLsb'_or, BitVec.toNat_or, BitVec.extractLsb'_toNat, BitVec.extractLsb'_toNat, Nat.shiftRight_eq_div_pow,
      Nat.div_eq_of_lt (by omega)]
    rfl
  have h2 : ((x ||| 0x3F800000#32).extractLsb' 23 8).toNat = 127 := by
    rw [BitVec.extractLsb'_or, BitVec.toNat_or, BitVec.extractLsb'_toNat, BitVec.extractLsb'_toNat, Nat.shiftRight_eq_div_pow,
      Nat.div_eq_of_lt (by omega)]
    rfl
  have h3 : ((x ||| 0x3F800000#32).extractLsb' 0 23).toNat = x.toNat := by
    rw [BitVec.extractLsb'_or, BitVec.toNat_or, BitVec.extractLsb'_toNat, BitVec.extractLsb'_toNat, Nat.shiftRight_eq_div_pow,
      show (0x3F800000#32).toNat >>> 0 % 2 ^ 23 = 0 from rfl, Nat.or_zero, Nat.pow_zero, Nat.div_one, Nat.mod_eq_of_lt hx]
  show Ideal.ieee 8 23 _ = _
  unfold Ideal.ieee
  simp only [h1, h2, h3]
  norm_num [-EReal.coe_mul, -EReal.coe_add]
  ring

/-- The kernel's uniform number is the reference's. -/
theorem uni_eq (b : BitVec 32) :
    max (Ideal.ofBits .f32 (b >>> 9 ||| 0x3F800000#32) - 1) (Ideal.ofBits .f32 0x00800000#32) = Ref.uni b := by
  have hx : (b >>> 9).toNat < 2 ^ 23 := by
    rw [BitVec.toNat_ushiftRight, Nat.shiftRight_eq_div_pow]; have := b.isLt; omega
  unfold Ref.uni
  generalize b >>> 9 = x at hx
  have hs : x.toInt = (x.toNat : Int) := BitVec.toInt_eq_toNat_of_lt (by omega)
  rw [mantissa_value x hx, tiny_value, step_value, hs, ← EReal.coe_one, ← EReal.coe_sub, ← EReal.coe_strictMono.monotone.map_max, ← EReal.coe_mul]
  split
  · next h =>
    subst h
    congr 1
    norm_num
  · next h =>
    congr 1
    have h1 : 1 ≤ x.toNat := by
      rcases Nat.eq_zero_or_pos x.toNat with e | e
      · exact absurd (BitVec.eq_of_toNat_eq e) h
      · exact e
    have h2 : (1 : ℝ) ≤ (x.toNat : ℝ) := by exact_mod_cast h1
    rw [add_sub_cancel_left, max_eq_left]
    · norm_cast
    · refine le_trans (by norm_num : (2 : ℝ) ^ (-126 : Int) ≤ 1 * 2 ^ (-23 : Int)) (mul_le_mul_of_nonneg_right h2 (by positivity))

end Cert.Proof.Uniform
end
-- ==== Proof.KerHash.lean ====
module

public import proofs.«01_k».proof.Proof.Uniform
public import proofs.«01_k».proof.Proof.Gen.KernelIdeal.Skeleton
public import Idealize.ShloMosaic.Lib.Pointwise
public import Idealize.ShloMosaic.Lib.ValueIdx

/-!
# The kernel's random words and noise

At every lane the kernel's rounds are the rounds of the shared hash, and its logarithm is the logarithm of the same uniform number.
-/

@[expose] public section
noncomputable section
namespace Cert.Proof.Ker

open Cert.KernelIdeal Cert.KernelIdeal.Gen
open Idealize.ShloMosaic

variable (i : grid0.Coords) (v x s : IVec S8192x128 32) (j : S8192x128.Idx)

/-- The first four rounds, from the counter to the first injection. -/
theorem group1 : (k0_pay13 (F := Ideal) i v j, k0_pay12 (F := Ideal) i v j) = Hash.g1 (k0_pay5 (F := Ideal) i v j) := by
  have h1 : (k0_pay7 (F := Ideal) i v j, k0_pay6 (F := Ideal) i v j) = Hash.mix 13 (k0_pay5 (F := Ideal) i v j, k0_pay5 (F := Ideal) i v j) := rfl
  have h2 : (k0_pay9 (F := Ideal) i v j, k0_pay8 (F := Ideal) i v j) = Hash.mix 15 (k0_pay7 (F := Ideal) i v j, k0_pay6 (F := Ideal) i v j) := rfl
  have h3 : (k0_pay11 (F := Ideal) i v j, k0_pay10 (F := Ideal) i v j) = Hash.mix 26 (k0_pay9 (F := Ideal) i v j, k0_pay8 (F := Ideal) i v j) := rfl
  have h4 : (k0_pay13 (F := Ideal) i v j, k0_pay12 (F := Ideal) i v j) = Hash.inj 6 42#32 466689009#32 (k0_pay11 (F := Ideal) i v j, k0_pay10 (F := Ideal) i v j) := rfl
  rw [h4, h3, h2, h1]
  rfl

/-- The next six rounds. -/
theorem group2 : (k0_pay25 x s j, k0_pay24 x s j) = Hash.mix 15 (Hash.mix 13 (Hash.g2 (s j, x j))) := by
  have h1 : (k0_pay15 x s j, k0_pay14 x s j) = Hash.mix 17 (s j, x j) := rfl
  have h2 : (k0_pay17 x s j, k0_pay16 x s j) = Hash.mix 29 (k0_pay15 x s j, k0_pay14 x s j) := rfl
  have h3 : (k0_pay19 x s j, k0_pay18 x s j) = Hash.mix 16 (k0_pay17 x s j, k0_pay16 x s j) := rfl
  have h4 : (k0_pay21 x s j, k0_pay20 x s j) = Hash.inj 24 466689008#32 2#32 (k0_pay19 x s j, k0_pay18 x s j) := rfl
  have h5 : (k0_pay23 x s j, k0_pay22 x s j) = Hash.mix 13 (k0_pay21 x s j, k0_pay20 x s j) := rfl
  have h6 : (k0_pay25 x s j, k0_pay24 x s j) = Hash.mix 15 (k0_pay23 x s j, k0_pay22 x s j) := rfl
  rw [h6, h5, h4, h3, h2, h1]
  rfl

/-- The next six rounds, the last one's injection left to the next stretch. -/
theorem group3 : (k0_pay35 x s j, k0_pay34 x s j)
    = Hash.mix 16 (Hash.mix 29 (Hash.mix 17 (Hash.inj 6 0#32 45#32 (Hash.mix 26 (s j, x j))))) := by
  have h1 : (k0_pay27 x s j, k0_pay26 x s j) = Hash.mix 26 (s j, x j) := rfl
  have h2 : (k0_pay29 x s j, k0_pay28 x s j) = Hash.inj 6 0#32 45#32 (k0_pay27 x s j, k0_pay26 x s j) := by
    unfold Hash.inj
    rw [BitVec.add_zero]
    rfl
  have h3 : (k0_pay31 x s j, k0_pay30 x s j) = Hash.mix 17 (k0_pay29 x s j, k0_pay28 x s j) := rfl
  have h4 : (k0_pay33 x s j, k0_pay32 x s j) = Hash.mix 29 (k0_pay31 x s j, k0_pay30 x s j) := rfl
  have h5 : (k0_pay35 x s j, k0_pay34 x s j) = Hash.mix 16 (k0_pay33 x s j, k0_pay32 x s j) := rfl
  rw [h5, h4, h3, h2, h1]

/-- The last injection's two words. -/
theorem group4 : ((k0_pay37 x s j) + (k0_pay36 x s j + 466689012#32), k0_pay36 x s j + 466689012#32)
    = Hash.inj 24 42#32 466689012#32 (k0_pay35 x s j, k0_pay34 x s j) := rfl

/-- One round on two words at every lane. -/
def turn (r r' : BitVec 32) (p : IVec S8192x128 32 × IVec S8192x128 32) : IVec S8192x128 32 × IVec S8192x128 32 :=
  (addi p.1 (xori p.1 (ori (shli p.2 (broadcast S8192x128 r)) (shrui p.2 (broadcast S8192x128 r')))),
    xori p.1 (ori (shli p.2 (broadcast S8192x128 r)) (shrui p.2 (broadcast S8192x128 r'))))

/-- The last round and its injection on two words at every lane, as one word. -/
def close (p : IVec S8192x128 32 × IVec S8192x128 32) : IVec S8192x128 32 :=
  xori (addi p.1 (broadcast S8192x128 466689008#32))
    (addi (xori p.1 (ori (shli p.2 (broadcast S8192x128 6#32)) (shrui p.2 (broadcast S8192x128 26#32)))) (broadcast S8192x128 5#32))

/-- The logarithm of the uniform number of a word, at every lane. -/
def logUni (b : IVec S8192x128 32) : FVec Ideal S8192x128 .f32 :=
  log (maximumf (subf (bitcastToFloat .f32 (ori (shrui b (broadcast S8192x128 9#32)) (broadcast S8192x128 1065353216#32)))
    (broadcast S8192x128 (Scalar.ofBits .f32 0x3F800000#32))) (broadcast S8192x128 (Scalar.ofBits .f32 0x00800000#32)))

/-- A turn by 13 is the mixing step. -/
theorem turn13 (p) : ((turn 13#32 19#32 p).1 j, (turn 13#32 19#32 p).2 j) = Hash.mix 13 (p.1 j, p.2 j) := rfl
/-- A turn by 15 is the mixing step. -/
theorem turn15 (p) : ((turn 15#32 17#32 p).1 j, (turn 15#32 17#32 p).2 j) = Hash.mix 15 (p.1 j, p.2 j) := rfl
/-- A turn by 26 is the mixing step. -/
theorem turn26 (p) : ((turn 26#32 6#32 p).1 j, (turn 26#32 6#32 p).2 j) = Hash.mix 26 (p.1 j, p.2 j) := rfl
/-- The closing step at an index. -/
theorem close_apply (p) : close p j = Hash.fin 6 466689008#32 5#32 (p.1 j, p.2 j) := rfl

/-- The logarithm of the word's number. -/
theorem logUni_apply (b : IVec S8192x128 32) : logUni b j = Ideal.log (Ref.uni (b j)) := by
  rw [← Uniform.uni_eq, ← Ideal.ofBits_one_f32]
  rfl

/-- The last four rounds and the logarithm of the uniform number. -/
theorem group5 (c : BitVec 32) : k0_pay38 (F := Ideal) x s c
    = logUni (close (turn 26#32 6#32 (turn 15#32 17#32 (turn 13#32 19#32
        (addi s (addi x (broadcast S8192x128 c)), addi x (broadcast S8192x128 c)))))) := by
  unfold k0_pay38 logUni close turn
  rfl

/-- The last group of turns, then the number and its logarithm. -/
theorem group5_apply (c : BitVec 32) : k0_pay38 (F := Ideal) x s c j
    = Ideal.log (Ref.uni (Hash.g5 (s j + (x j + c), x j + c))) := by
  rw [group5, logUni_apply, close_apply, turn26, turn15, turn13]
  rfl

/-- The kernel's logarithm at a lane whose counter is `c`. -/
theorem noise :
    k0_pay38 (F := Ideal) (k0_pay36 (k0_pay24 (k0_pay12 (F := Ideal) i v) (k0_pay13 (F := Ideal) i v)) (k0_pay25 (k0_pay12 (F := Ideal) i v) (k0_pay13 (F := Ideal) i v)))
        (k0_pay37 (k0_pay24 (k0_pay12 (F := Ideal) i v) (k0_pay13 (F := Ideal) i v)) (k0_pay25 (k0_pay12 (F := Ideal) i v) (k0_pay13 (F := Ideal) i v))) 466689012#32 j
      = Ideal.log (Ref.uni (Hash.word (k0_pay5 (F := Ideal) i v j))) := by
  rw [group5_apply, group4, group3, group2, group1]
  rfl

end Cert.Proof.Ker
end
-- ==== Proof.KerPick.lean ====
module

public import proofs.«01_k».proof.Proof.KerHash

/-!
# The kernel's scores and choices in one block

A row of a block holds two samples, 64 lanes each; each half's first greatest lane is stored.
-/

@[expose] public section
noncomputable section
namespace Cert.Proof.Ker

open Cert.KernelIdeal Cert.KernelIdeal.Gen
open Idealize.ShloMosaic

/-- The lanes' counters in the first block, before the block's own offset. -/
theorem init_apply (r : Fin 8192) (l : Fin 128) :
    k0_pay4 (ix2 r l) = BitVec.ofNat 32 r.val * 128#32 + BitVec.ofNat 32 l.val + 42#32 := by
  unfold k0_pay4
  simp only [pointwise]
  show BitVec.ofNat 32 (0 * 8192 + r.val) * 128#32 + BitVec.ofNat 32 (0 * 128 + l.val) + 42#32 = _
  simp only [Nat.zero_mul, Nat.zero_add]

/-- The lanes' counters with the block's offset. -/
theorem counter_apply (i : grid0.Coords) (v : IVec S8192x128 32) (j : S8192x128.Idx) :
    k0_pay5 (F := Ideal) i v j = v j + BitVec.ofNat 32 (i 0).val * 8192#32 * 2#32 * 64#32 := rfl

/-- The score of a lane: its noise and one of the two values of the table. -/
theorem score_apply (u : S8192x128.Idx → EReal) (z : IVec S8192x2 32) (hi lo : S1x1.Idx → EReal) (r : Fin 8192) (l : Fin 128) :
    k0_pay1 (F := Ideal) u (Ideal.ofBits .f32 0#32) z hi lo (ix2 r l) = -Ideal.log (-u (ix2 r l))
      + (if BitVec.ofNat 32 l.val = z (ix2 r 0) ∨ BitVec.ofNat 32 l.val = z (ix2 r 1) + 64#32 then hi (ix2 0 0) else lo (ix2 0 0)) := by
  unfold k0_pay1
  simp only [pointwise]
  show 0 - Ideal.log (0 - u (ix2 r l)) + Scalar.select (IntOp.ori (IntOp.cmpi .eq (BitVec.ofNat 32 (0 * 128 + l.val)) (z (ix2 ⟨0 + r.val, _⟩ 0)))
    (IntOp.cmpi .eq (BitVec.ofNat 32 (0 * 128 + l.val)) (z (ix2 ⟨0 + r.val, _⟩ 1) + 64#32))) (hi (ix2 0 0)) (lo (ix2 0 0)) = _
  simp only [Nat.zero_mul, Nat.zero_add, Fin.eta]
  rw [zero_sub, zero_sub, Ref.cmpi_eq_ite, Ref.cmpi_eq_ite]
  congr 1
  by_cases h : BitVec.ofNat 32 l.val = z (ix2 r 0) <;> by_cases h' : BitVec.ofNat 32 l.val = z (ix2 r 1) + 64#32
  · rw [if_pos h, if_pos h', if_pos (.inl h)]; rfl
  · rw [if_pos h, if_neg h', if_pos (.inl h)]; rfl
  · rw [if_neg h, if_pos h', if_pos (.inr h')]; rfl
  · rw [if_neg h, if_neg h', if_neg (not_or.2 ⟨h, h'⟩)]; rfl

/-- A row's place among the places of its block. -/
theorem lift_row (r : Fin 8192) (k : Fin (S8192x64.size 1)) : reduces_S8192x64_S8192.lift (ix1 r) k = ix2 r k := by
  funext b
  apply Fin.ext
  rw [Shape.Reduces.lift_val]
  fin_cases b <;> rfl

/-- The left half's stored word. -/
theorem left_apply (u : S8192x128.Idx → EReal) (c : EReal) (z : IVec S8192x2 32) (hi lo : S1x1.Idx → EReal) (r : Fin 8192) (k : Fin 64)
    (hb : Pick.Best (fun k : Fin 64 => k0_pay1 (F := Ideal) u c z hi lo (ix2 r ⟨k.val, by omega⟩)) k) :
    k0_pay2 (F := Ideal) u c z hi lo (ix2 r 0) = BitVec.ofNat 32 k.val := by
  unfold k0_pay2
  simp only [pointwise]
  refine Pick.reduceIndex_of_best reduces_S8192x64_S8192 _ (ix1 r) (k := (k : Fin 64)) ?_
  have e : (fun k => extractStridedSlice S8192x64 ![0, 0] (k0_pay1 (F := Ideal) u c z hi lo) slices_S8192x128_o0_0_S8192x64 (reduces_S8192x64_S8192.lift (ix1 r) k))
      = fun k : Fin 64 => k0_pay1 (F := Ideal) u c z hi lo (ix2 r ⟨k.val, by omega⟩) := by
    funext k
    refine congrArg (k0_pay1 (F := Ideal) u c z hi lo) ?_
    rw [lift_row r k]
    funext b
    apply Fin.ext
    fin_cases b <;> exact Nat.zero_add _
  rw [← e] at hb
  exact hb

/-- The right half's stored word. -/
theorem right_apply (u : S8192x128.Idx → EReal) (c : EReal) (z : IVec S8192x2 32) (hi lo : S1x1.Idx → EReal) (r : Fin 8192) (k : Fin 64)
    (hb : Pick.Best (fun k : Fin 64 => k0_pay1 (F := Ideal) u c z hi lo (ix2 r ⟨64 + k.val, by omega⟩)) k) :
    k0_pay3 (F := Ideal) u c z hi lo (ix2 r 0) = BitVec.ofNat 32 k.val := by
  unfold k0_pay3
  simp only [pointwise]
  refine Pick.reduceIndex_of_best reduces_S8192x64_S8192 _ (ix1 r) (k := (k : Fin 64)) ?_
  have e : (fun k => extractStridedSlice S8192x64 ![0, 64] (k0_pay1 (F := Ideal) u c z hi lo) slices_S8192x128_o0_64_S8192x64 (reduces_S8192x64_S8192.lift (ix1 r) k))
      = fun k : Fin 64 => k0_pay1 (F := Ideal) u c z hi lo (ix2 r ⟨64 + k.val, by omega⟩) := by
    funext k
    refine congrArg (k0_pay1 (F := Ideal) u c z hi lo) ?_
    rw [lift_row r k]
    funext b
    apply Fin.ext
    fin_cases b
    · exact Nat.zero_add _
    · rfl
  rw [← e] at hb
  exact hb

end Cert.Proof.Ker
end
-- ==== Proof.KerBlock.lean ====
module

public import proofs.«01_k».proof.Proof.KerPick
public import proofs.«01_k».proof.Proof.Gen.KernelIdeal.Frame
public import Idealize.ShloMosaic.Lib.Pipeline.Value
public import Idealize.ShloMosaic.Lib.Tactic

/-!
# What one point of the grid leaves

The scratch holds the lanes' counters at every point, and the output block's two columns hold the two halves' choices.
-/

@[expose] public section
noncomputable section
namespace Cert.Proof.Ker

open Cert.KernelIdeal Cert.KernelIdeal.Gen
open Idealize.ShloMosaic Idealize.ShloMosaic.TcCoe Idealize.SL.Sem
open Idealize.ShloMosaic.Pipeline (Dat)

/-- The origin. -/
theorem hz : (![0, 0] : Fin 2 → Nat) = fun _ => 0 := funext fun a => by fin_cases a <;> rfl

/-- The logarithms of the uniform numbers of a block. -/
def logs (i : grid0.Coords) (v : IVec S8192x128 32) : FVec Ideal S8192x128 .f32 :=
  k0_pay38 (k0_pay36 (k0_pay24 (k0_pay12 (F := Ideal) i v) (k0_pay13 (F := Ideal) i v)) (k0_pay25 (k0_pay12 (F := Ideal) i v) (k0_pay13 (F := Ideal) i v)))
    (k0_pay37 (k0_pay24 (k0_pay12 (F := Ideal) i v) (k0_pay13 (F := Ideal) i v)) (k0_pay25 (k0_pay12 (F := Ideal) i v) (k0_pay13 (F := Ideal) i v))) 466689012#32

/-- The output block of a point whose lanes' counters are `v`, from the block `z` of states and the table `t`: two columns. -/
def stored (i : grid0.Coords) (z : Vec Ideal S8192x2 .i32) (t : Vec Ideal S128x128 .f32) (v : Vec Ideal S8192x128 .i32) : Vec Ideal S8192x2 .i32 :=
  View.canon (Val := Elt Ideal)
    [⟨Rect.unit ![0, 1] ![8192, 1] inb_S8192x2_S8192x1_0_1,
        k0_pay3 (F := Ideal) (logs i v) (FloatOps.ofBits FTy.f32 0#32) z (View.ld (Val := Elt Ideal) (e' := .f32) t (Rect.unit ![0, 0] ![1, 1] inb_S128x128_S1x1_0_0))
          (View.ld (Val := Elt Ideal) (e' := .f32) t (Rect.unit ![0, 1] ![1, 1] inb_S128x128_S1x1_0_1))⟩,
      ⟨Rect.unit ![0, 0] ![8192, 1] inb_S8192x2_S8192x1_0_0,
        k0_pay2 (F := Ideal) (logs i v) (FloatOps.ofBits FTy.f32 0#32) z (View.ld (Val := Elt Ideal) (e' := .f32) t (Rect.unit ![0, 0] ![1, 1] inb_S128x128_S1x1_0_0))
          (View.ld (Val := Elt Ideal) (e' := .f32) t (Rect.unit ![0, 1] ![1, 1] inb_S128x128_S1x1_0_1))⟩]

section Points
variable (c : Dev nD) (i : grid0.Coords) (a1 : Memref sig .tc .vmem S8192x2 .i32) (h1 : a1.IsWhole) (a2 : Memref sig .tc .vmem S128x128 .f32) (h2 : a2.IsWhole)
    (a3 : Memref sig .tc .vmem S8192x2 .i32) (h3 : a3.IsWhole) (a4 : Memref sig .tc .vmem S8192x128 .i32) (h4 : a4.IsWhole)
    (x0 : Vec Ideal S8192x2 .i32) (x1 : Vec Ideal S128x128 .f32) (xs : Vec Ideal S8192x128 .i32)

/-- A later point's output block. -/
theorem out_B (hc : ¬cond0_0 i) : out0_B_2 (F := Ideal) c i a1 h1 a2 h2 a3 h3 a4 h4 hc x0 x1 xs = stored i x0 x1 xs := by
  unfold out0_B_2
  rw [View.read_writes_eq_canon _ _ _ (cover0_B_2 c i a1 h1 a2 h2 a3 h3 a4 h4 hc x0 x1 xs)]
  unfold kernelRun0_B
  dsimp only
  sl_unfold_words
  simp only [View.readAt_eq_ld, h1.read_unread, h2.read_unread, h4.read_unread, View.ld_unit_zero (S := S8192x2) hz, View.ld_unit_zero (S := S8192x128) hz, shapeCast_self]
  rfl

/-- The first point's output block. -/
theorem out_A (hc : cond0_0 i) : out0_A_2 (F := Ideal) c i a1 h1 a2 h2 a3 h3 a4 h4 hc x0 x1 = stored i x0 x1 k0_pay4 := by
  unfold out0_A_2
  rw [View.read_writes_eq_canon _ _ _ (cover0_A_2 c i a1 h1 a2 h2 a3 h3 a4 h4 hc x0 x1)]
  unfold kernelRun0_A
  dsimp only
  sl_unfold_words
  rw [View.readCov_unit_zero (S := S8192x128) _ hz]
  simp only [View.readAt_eq_ld, h1.read_unread, h2.read_unread, View.ld_unit_zero (S := S8192x2) hz, View.ld_unit_zero (S := S8192x128) hz, shapeCast_self]
  rfl

/-- The first point's scratch. -/
theorem sout_A (hc : cond0_0 i) : sout0_A_0 (F := Ideal) c i a1 h1 a2 h2 a3 h3 a4 h4 hc x0 x1 = k0_pay4 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz]

/-- A later point keeps the scratch. -/
theorem sout_B (hc : ¬cond0_0 i) : sout0_B_0 (F := Ideal) c i a1 h1 a2 h2 a3 h3 a4 h4 hc x0 x1 xs = xs := rfl

end Points

/-- Every point finds the counters in the scratch and leaves its block's choices. -/
theorem outsAt_eq (m : (ℓ : Loc nD τ sig) → Buf (Elt Ideal) ℓ) (c : Dev nD) (n : ℕ) :
    ∀ h : n < cfg0.N, outsAt0 m c n h = (stored (grid0.coords ⟨n, h⟩) (iblk m c 0 ⟨n, h⟩) (iblk m c 1 ⟨n, h⟩) k0_pay4, k0_pay4) := by
  induction n with
  | zero =>
    intro h
    refine (outsAt0_A m c ⟨0, h⟩ (Nat.zero_mod 32)).trans ?_
    rw [out_A, sout_A]
  | succ n ih =>
    intro h
    have hN : cfg0.N = 32 := N_0
    have hB : ¬(⟨n + 1, h⟩ : Fin cfg0.N).val % 32 = 0 := by dsimp only; omega
    refine (outsAt0_B m c ⟨n + 1, h⟩ hB).trans ?_
    have e : (outsAt0 m c ((⟨n + 1, h⟩ : Fin cfg0.N).val - 1) (Nat.lt_of_le_of_lt (Nat.sub_le _ _) h)).2 = k0_pay4 := congrArg Prod.snd (ih (Nat.lt_of_succ_lt h))
    rw [out_B, sout_B, e]

/-- The counter of the lane `l` of the row `r` in the block `g`. -/
def laneCtr (g r l : Nat) : BitVec 32 :=
  BitVec.ofNat 32 r * 128#32 + BitVec.ofNat 32 l + 42#32 + BitVec.ofNat 32 g * 8192#32 * 2#32 * 64#32

/-- The score of a lane of a block. -/
def laneScore (g : Nat) (z : IVec S8192x2 32) (t : S128x128.Idx → EReal) (r : Fin 8192) (l : Fin 128) : EReal :=
  Ref.gum (Hash.word (laneCtr g r.val l.val))
    + (if BitVec.ofNat 32 l.val = z (ix2 r 0) ∨ BitVec.ofNat 32 l.val = z (ix2 r 1) + 64#32 then t (ix2 0 0) else t (ix2 0 1))

/-- The body's score at a lane is the lane's score. -/
theorem lane_eq (i : grid0.Coords) (z : IVec S8192x2 32) (t : Vec Ideal S128x128 .f32) (r : Fin 8192) (l : Fin 128) :
    k0_pay1 (F := Ideal) (logs i k0_pay4) (FloatOps.ofBits FTy.f32 0#32) z (View.ld (Val := Elt Ideal) (e' := .f32) t (Rect.unit ![0, 0] ![1, 1] inb_S128x128_S1x1_0_0))
          (View.ld (Val := Elt Ideal) (e' := .f32) t (Rect.unit ![0, 1] ![1, 1] inb_S128x128_S1x1_0_1)) (ix2 r l)
      = laneScore (i 0).val z t r l := by
  refine (score_apply _ z _ _ r l).trans ?_
  unfold logs
  rw [noise, counter_apply, init_apply]
  have e0 : View.ld (Val := Elt Ideal) (e' := .f32) t (Rect.unit ![0, 0] ![1, 1] inb_S128x128_S1x1_0_0) (ix2 0 0) = t (ix2 0 0) :=
    congrArg t (funext fun b => by fin_cases b <;> rfl)
  have e1 : View.ld (Val := Elt Ideal) (e' := .f32) t (Rect.unit ![0, 1] ![1, 1] inb_S128x128_S1x1_0_1) (ix2 0 0) = t (ix2 0 1) :=
    congrArg t (funext fun b => by fin_cases b <;> rfl)
  rw [e0, e1]
  rfl

/-- The first column holds the left halves' first best lanes. -/
theorem stored_left (i : grid0.Coords) (z : IVec S8192x2 32) (t : Vec Ideal S128x128 .f32) (r : Fin 8192) (k : Fin 64)
    (hb : Pick.Best (fun k : Fin 64 => laneScore (i 0).val z t r ⟨k.val, by omega⟩) k) :
    stored i z t k0_pay4 (ix2 r 0) = BitVec.ofNat 32 k.val := by
  unfold stored
  rw [View.canon_cons_of_not_mem]
  · have e : (ix2 r 0 : S8192x2.Idx) = (Rect.unit (s := S8192x2) ![0, 0] ![8192, 1] inb_S8192x2_S8192x1_0_0).emb (ix2 r 0) := by
      funext b
      apply Fin.ext
      fin_cases b
      · exact ((congrArg (0 + ·) (Nat.one_mul r.val)).trans (Nat.zero_add _)).symm
      · rfl
    rw [e, View.canon_cons_emb]
    refine left_apply _ _ z _ _ r k ?_
    simp only [lane_eq]
    exact hb
  · rw [Rect.mem_set_unit]
    intro h
    exact absurd (show 1 ≤ 0 from (h 1).1) (by decide)

/-- The second column holds the right halves' first best lanes. -/
theorem stored_right (i : grid0.Coords) (z : IVec S8192x2 32) (t : Vec Ideal S128x128 .f32) (r : Fin 8192) (k : Fin 64)
    (hb : Pick.Best (fun k : Fin 64 => laneScore (i 0).val z t r ⟨64 + k.val, by omega⟩) k) :
    stored i z t k0_pay4 (ix2 r 1) = BitVec.ofNat 32 k.val := by
  unfold stored
  have e : (ix2 r 1 : S8192x2.Idx) = (Rect.unit (s := S8192x2) ![0, 1] ![8192, 1] inb_S8192x2_S8192x1_0_1).emb (ix2 r 0) := by
    funext b
    apply Fin.ext
    fin_cases b
    · exact ((congrArg (0 + ·) (Nat.one_mul r.val)).trans (Nat.zero_add _)).symm
    · rfl
  rw [e, View.canon_cons_emb]
  refine right_apply _ _ z _ _ r k ?_
  simp only [lane_eq]
  exact hb

end Cert.Proof.Ker
end
-- ==== Proof.KerHead.lean ====
module

public import proofs.«01_k».proof.Proof.RefTail
public import proofs.«01_k».proof.Proof.KerBlock

/-!
# What the kernel's host operations leave

The transition table, the logarithms of its entries, and the states two to a row.
-/

@[expose] public section
noncomputable section
namespace Cert.Proof.Ker

open Cert.KernelIdeal Cert.KernelIdeal.Gen
open Idealize.ShloMosaic Idealize.ShloMosaic.TcCoe Idealize.ShloMosaic.StableHlo Idealize.SL.Sem

section Ops
variable {F : FTy → Type} [FloatOps F]

/-- The operations up to the step's position in the schedule. -/
abbrev alphaHead : List (HloOp τ sig (Elt F)) :=
  [ nullary main_cst (fun i => FloatOps.ofBits .f32 (lit0 (S1001.rowMajor i))),
    nullary main_c (constantI S_ 32 0#32),
    binary main_arg2 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 1001#32),
    binary main_arg2 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg2 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The operations reading the schedule at that position. -/
abbrev alphaTail : List (HloOp τ sig (Elt F)) :=
  [ unaryIndexed main_cst ![main_v2] ⟨S_, .i32⟩ main_v3 ((fun x i => Host.dynamicSlice S1 x (fun k => (i k (Shape.Idx.first h_S_)).toInt) sliceFits_S1001_S1) : (⟨S1001, .f32⟩ : BufTy).Contents (Elt F) → (Fin 1 → (⟨S_, .i32⟩ : BufTy).Contents (Elt F)) → (⟨S1, .f32⟩ : BufTy).Contents (Elt F)),
    reshape main_v3 main_v4 (rfl : (.f32 : EltTy) = .f32) shapeCasts_S1_S_ ]

/-- The operations building the transition table. -/
abbrev tableOps : List (HloOp τ sig (Elt F)) :=
  [ nullary main_v5 (iotaInDim S64x64 32 0),
    nullary main_v6 (iotaInDim S64x64 32 1),
    nullary main_c_1 (constantI S_ 32 0#32),
    unary main_c_1 main_v7 (broadcastInDim S64x64 ![] bcast_S_S64x64 : (⟨S_, .i32⟩ : BufTy).Contents (Elt F) → (⟨S64x64, .i32⟩ : BufTy).Contents (Elt F)),
    binary main_v5 main_v7 main_v8 (addi : (⟨S64x64, .i32⟩ : BufTy).Contents (Elt F) → (⟨S64x64, .i32⟩ : BufTy).Contents (Elt F) → (⟨S64x64, .i32⟩ : BufTy).Contents (Elt F)),
    binary main_v8 main_v6 main_v9 (cmpi .eq : (⟨S64x64, .i32⟩ : BufTy).Contents (Elt F) → (⟨S64x64, .i32⟩ : BufTy).Contents (Elt F) → (⟨S64x64, .i1⟩ : BufTy).Contents (Elt F)),
    unary main_v9 main_v10 (uitofp .f32 : (⟨S64x64, .i1⟩ : BufTy).Contents (Elt F) → (⟨S64x64, .f32⟩ : BufTy).Contents (Elt F)),
    unary main_v4 main_v11 (broadcastInDim S64x64 ![] bcast_S_S64x64 : (⟨S_, .f32⟩ : BufTy).Contents (Elt F) → (⟨S64x64, .f32⟩ : BufTy).Contents (Elt F)),
    binary main_v11 main_v10 main_v12 (mulf : (⟨S64x64, .f32⟩ : BufTy).Contents (Elt F) → (⟨S64x64, .f32⟩ : BufTy).Contents (Elt F) → (⟨S64x64, .f32⟩ : BufTy).Contents (Elt F)),
    nullary main_cst_2 (constant S_ .f32 0x3F800000#32),
    binary main_cst_2 main_v4 main_v13 (subf : (⟨S_, .f32⟩ : BufTy).Contents (Elt F) → (⟨S_, .f32⟩ : BufTy).Contents (Elt F) → (⟨S_, .f32⟩ : BufTy).Contents (Elt F)),
    unary main_v13 main_v14 (broadcastInDim S64x64 ![] bcast_S_S64x64 : (⟨S_, .f32⟩ : BufTy).Contents (Elt F) → (⟨S64x64, .f32⟩ : BufTy).Contents (Elt F)),
    binary main_v14 main_arg1 main_v15 (mulf : (⟨S64x64, .f32⟩ : BufTy).Contents (Elt F) → (⟨S64x64, .f32⟩ : BufTy).Contents (Elt F) → (⟨S64x64, .f32⟩ : BufTy).Contents (Elt F)),
    binary main_v12 main_v15 main_v16 (addf : (⟨S64x64, .f32⟩ : BufTy).Contents (Elt F) → (⟨S64x64, .f32⟩ : BufTy).Contents (Elt F) → (⟨S64x64, .f32⟩ : BufTy).Contents (Elt F)) ]

/-- The operations taking the logarithms of the table's rows. -/
abbrev logOps : List (HloOp τ sig (Elt F)) :=
  [ unary main_v10 main_v17 (broadcastInDim S64x64x1 ![0, 1] bcast_S64x64_S64x64x1_0_1 : (⟨S64x64, .f32⟩ : BufTy).Contents (Elt F) → (⟨S64x64x1, .f32⟩ : BufTy).Contents (Elt F)),
    unary main_v16 main_v18 (broadcastInDim S1x64x64 ![1, 2] bcast_S64x64_S1x64x64_1_2 : (⟨S64x64, .f32⟩ : BufTy).Contents (Elt F) → (⟨S1x64x64, .f32⟩ : BufTy).Contents (Elt F)),
    unary main_v17 main_v19 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v18 main_v20 (broadcastInDim S64x64x64 ![0, 1, 2] bcast_S1x64x64_S64x64x64_0_1_2 : (⟨S1x64x64, .f32⟩ : BufTy).Contents (Elt F) → (⟨S64x64x64, .f32⟩ : BufTy).Contents (Elt F)),
    binary main_v19 main_v20 main_v21 (mulf : (⟨S64x64x64, .f32⟩ : BufTy).Contents (Elt F) → (⟨S64x64x64, .f32⟩ : BufTy).Contents (Elt F) → (⟨S64x64x64, .f32⟩ : BufTy).Contents (Elt F)),
    nullary main_cst_3 (constant S_ .f32 0x00000000#32),
    binary main_v21 main_cst_3 main_v22 ((fun x v => Host.reduceAdd x v reducesTo_S64x64x64_S64x64_d1 h_S_) : (⟨S64x64x64, .f32⟩ : BufTy).Contents (Elt F) → (⟨S_, .f32⟩ : BufTy).Contents (Elt F) → (⟨S64x64, .f32⟩ : BufTy).Contents (Elt F)),
    nullary main_cst_4 (constant S_ .f32 0x2B8CBCCC#32),
    unary main_cst_4 main_v23 (broadcastInDim S64x64 ![] bcast_S_S64x64 : (⟨S_, .f32⟩ : BufTy).Contents (Elt F) → (⟨S64x64, .f32⟩ : BufTy).Contents (Elt F)),
    binary main_v22 main_v23 main_v24 (addf : (⟨S64x64, .f32⟩ : BufTy).Contents (Elt F) → (⟨S64x64, .f32⟩ : BufTy).Contents (Elt F) → (⟨S64x64, .f32⟩ : BufTy).Contents (Elt F)),
    unary main_v24 main_v25 (Host.log : (⟨S64x64, .f32⟩ : BufTy).Contents (Elt F) → (⟨S64x64, .f32⟩ : BufTy).Contents (Elt F)),
    nullary main_cst_5 (constant S_ .f32 0x00000000#32),
    unary main_cst_5 main_v26 (broadcastInDim S64x64 ![] bcast_S_S64x64 : (⟨S_, .f32⟩ : BufTy).Contents (Elt F) → (⟨S64x64, .f32⟩ : BufTy).Contents (Elt F)) ]

end Ops

/-- The step's position, negative steps counted from the end. -/
theorem alphaHead_pos (V : Valuation τ sig (Elt Ideal)) {t : IVec S_ 32} (ht : V (main_arg2 : DevRef τ sig) = t) :
    after alphaHead V (main_v2 : DevRef τ sig) =
      (select (cmpi .slt t (constantI S_ 32 0#32)) (addi t (constantI S_ 32 1001#32)) t : IVec S_ 32) := by
  after_results
  rw [ht]

/-- The schedule. -/
theorem alphaHead_lit (V : Valuation τ sig (Elt Ideal)) :
    after alphaHead V (main_cst : DevRef τ sig) = (fun i => FloatOps.ofBits (F := Ideal) .f32 (lit0 (S1001.rowMajor i)) : FVec Ideal S1001 .f32) := by
  after_results
  rfl

/-- The schedule read at a position. -/
theorem alphaTail_read (V : Valuation τ sig (Elt Ideal)) {p : IVec S_ 32} {x : FVec Ideal S1001 .f32}
    (hp : V (main_v2 : DevRef τ sig) = p) (hx : V (main_cst : DevRef τ sig) = x) :
    after alphaTail V (main_v4 : DevRef τ sig) =
      (shapeCast S_ (Host.dynamicSlice S1 x (fun _ => (p (Shape.Idx.first h_S_)).toInt) sliceFits_S1001_S1) shapeCasts_S1_S_ : FVec Ideal S_ .f32) := by
  subst hp hx
  after_results
  funext i
  refine congrArg (fun f : Fin 1 → Int => (shapeCast S_ (Host.dynamicSlice S1 (V (main_cst : DevRef τ sig) : FVec Ideal S1001 .f32) f sliceFits_S1001_S1) shapeCasts_S1_S_ : FVec Ideal S_ .f32) i) (funext fun k => ?_)
  obtain rfl : k = 0 := Subsingleton.elim _ _
  rfl

/-- One entry of the identity table. -/
def same (i k : Fin 64) : EReal := if i = k then 1 else 0

/-- The two programs hold the same schedule. -/
theorem lit0_eq : Cert.KernelIdeal.lit0 = Cert.ReferenceIdeal.lit0 := rfl

/-- The schedule's stretch leaves the step's value. -/
theorem alpha_read (V : Valuation τ sig (Elt Ideal)) {t : IVec S_ 32} (ht : V (main_arg2 : DevRef τ sig) = t) :
    after alphaTail (after alphaHead V) (main_v4 : DevRef τ sig) = (fun _ => Ref.alpha Cert.ReferenceIdeal.lit0 t : FVec Ideal S_ .f32) := by
  rw [alphaTail_read _ (alphaHead_pos V ht) (alphaHead_lit V), lit0_eq]
  funext j
  have e : j = (ix0 : S_.Idx) := funext fun x => x.elim0
  rw [e, Ref.alpha]

/-- The table's stretch leaves the transition table. -/
theorem table_read (V : Valuation τ sig (Elt Ideal)) {a : EReal} {m : FVec Ideal S64x64 .f32}
    (ha : V (main_v4 : DevRef τ sig) = (fun _ => a : FVec Ideal S_ .f32)) (hm : V (main_arg1 : DevRef τ sig) = m) :
    after tableOps V (main_v16 : DevRef τ sig) = (fun j => Ref.entry a m (j 0) (j 1) : FVec Ideal S64x64 .f32) := by
  after_results
  funext j
  obtain ⟨i, k, rfl⟩ : ∃ i k, j = ix2 i k := ⟨j 0, j 1, eq_ix2 _⟩
  simp only [pointwise, ha, hm]
  show a * FloatOps.uitofp (F := Ideal) FTy.f32 (IntOp.cmpi .eq (IntOp.addi (BitVec.ofNat 32 i.val) 0#32) (BitVec.ofNat 32 k.val)) + (1 - a) * m (ix2 i k) = _
  rw [Ref.eyeWord, Ref.uitofp_ite]
  rfl

/-- The table's stretch leaves the identity table. -/
theorem eye_read (V : Valuation τ sig (Elt Ideal)) :
    after tableOps V (main_v10 : DevRef τ sig) = (fun j => same (j 0) (j 1) : FVec Ideal S64x64 .f32) := by
  after_results
  funext j
  obtain ⟨i, k, rfl⟩ : ∃ i k, j = ix2 i k := ⟨j 0, j 1, eq_ix2 _⟩
  simp only [pointwise]
  show FloatOps.uitofp (F := Ideal) FTy.f32 (IntOp.cmpi .eq (IntOp.addi (BitVec.ofNat 32 i.val) 0#32) (BitVec.ofNat 32 k.val)) = _
  rw [Ref.eyeWord, Ref.uitofp_ite]
  rfl

/-- The last stretch leaves the logarithms of the table's entries, each raised by the small constant. -/
theorem log_read (V : Valuation τ sig (Elt Ideal)) {q : FVec Ideal S64x64 .f32}
    (he : V (main_v10 : DevRef τ sig) = (fun j => same (j 0) (j 1) : FVec Ideal S64x64 .f32)) (hq : V (main_v16 : DevRef τ sig) = q) :
    after logOps V (main_v25 : DevRef τ sig) = (fun j => Ideal.log (q j + Ref.eps) : FVec Ideal S64x64 .f32) := by
  after_results
  funext j
  obtain ⟨i, k, rfl⟩ : ∃ i k, j = ix2 i k := ⟨j 0, j 1, eq_ix2 _⟩
  simp only [pointwise, he, hq]
  show Ideal.log (0 + ∑ l : Fin 64, same i l * q (ix2 l k) + Ref.eps) = Ideal.log (q (ix2 i k) + Ref.eps)
  rw [zero_add, Finset.sum_eq_single i]
  · rw [same, if_pos rfl, one_mul]
  · intro l _ h
    rw [same, if_neg (Ne.symm h), zero_mul]
  · exact fun h => absurd (Finset.mem_univ i) h

/-- The called function's operations put the table in the corner of a wider one. -/
theorem wide_read (V : Valuation τ sig (Elt Ideal)) {x : FVec Ideal S64x64 .f32} (hx : V (main_v25 : DevRef τ sig) = x) (i k : Fin 64) :
    (after hostOps0_1 V (main_v27 : DevRef τ sig) : FVec Ideal S128x128 .f32) (ix2 ⟨i.val, by omega⟩ ⟨k.val, by omega⟩) = x (ix2 i k) := by
  after_results
  rw [hx]
  refine (concatenate_pair_apply_left (t := S128x128) (s₁ := S64x128) (s₂ := S64x128) (0 : Fin 2) _ _ concatenates_S64x128_S64x128_S128x128_d0 _ rfl (ix2 i ⟨k.val, by omega⟩) (by
    intro b
    match b with
    | ⟨0, _⟩ => rfl
    | ⟨1, _⟩ => rfl)).trans ?_
  exact concatenate_pair_apply_left (t := S64x128) (s₁ := S64x64) (s₂ := S64x64) (1 : Fin 2) _ _ concatenates_S64x64_S64x64_S64x128_d1 _ rfl (ix2 i k) (by
    intro b
    match b with
    | ⟨0, _⟩ => rfl
    | ⟨1, _⟩ => rfl)

/-- The last host operation before the launch lays the states two to a row. -/
theorem pairs_read (V : Valuation τ sig (Elt Ideal)) {z : IVec S524288x1 32} (hz : V (main_arg0 : DevRef τ sig) = z) (n : Fin 524288) (R : Fin 262144) (h : Fin 2)
    (hn : n.val = 2 * R.val + h.val) :
    (after hostOps0_2 V (main_v28 : DevRef τ sig) : IVec S262144x2 32) (ix2 R h) = z (ix2 n 0) := by
  after_results
  rw [hz]
  refine shapeCast_apply _ shapeCasts_S524288x1_S262144x2 (ix2 R h) (ix2 n 0) ?_
  rw [Shape.rowMajor_val_two, Shape.rowMajor_val_two]
  show n.val * 1 + 0 = R.val * 2 + h.val
  omega

section Prefix
variable (m : (ℓ : Loc nD τ sig) → Buf (Elt Ideal) ℓ) (c : Dev nD)

/-- The operations before the launch, stretch by stretch. -/
theorem V0_eq : V0 m c = after hostOps0_2 (after hostOps0_1 (after logOps (after tableOps (after alphaTail (after alphaHead (fun b => m (c, b))))))) := by
  show after (alphaHead ++ (alphaTail ++ (tableOps ++ (logOps ++ (hostOps0_1 ++ hostOps0_2))))) _ = _
  rw [after_append, after_append, after_append, after_append, after_append]

/-- The corner of the kernel's table. -/
theorem table_at (i k : Fin 64) :
    (V m c main_v27 : FVec Ideal S128x128 .f32) (ix2 ⟨i.val, by omega⟩ ⟨k.val, by omega⟩)
      = Ideal.log (Ref.entry (Ref.alpha Cert.ReferenceIdeal.lit0 (m ((c : Thread nD τ).loc main_arg2))) (m ((c : Thread nD τ).loc main_arg1)) i k + Ref.eps) := by
  unfold V
  rw [V0_eq]
  have hx : after logOps (after tableOps (after alphaTail (after alphaHead (fun b => m (c, b))))) (main_v25 : DevRef τ sig) = _ :=
    log_read _ (eye_read _) (table_read _ (alpha_read _ rfl) (m := m ((c : Thread nD τ).loc main_arg1)) (by after_results))
  have hs : ∀ W : Valuation τ sig (Elt Ideal), after hostOps0_2 W (main_v27 : DevRef τ sig) = W (main_v27 : DevRef τ sig) := fun W => by after_results
  rw [hs]
  exact wide_read _ hx i k

/-- The kernel's states. -/
theorem pairs_at (n : Fin 524288) (R : Fin 262144) (h : Fin 2) (hn : n.val = 2 * R.val + h.val) :
    (V m c main_v28 : IVec S262144x2 32) (ix2 R h) = (m ((c : Thread nD τ).loc main_arg0) : IVec S524288x1 32) (ix2 n 0) := by
  unfold V
  rw [V0_eq]
  exact pairs_read _ (z := m ((c : Thread nD τ).loc main_arg0)) (by after_results) n R h hn

end Prefix

end Cert.Proof.Ker
end
-- ==== Proof.KerArray.lean ====
module

public import proofs.«01_k».proof.Proof.KerHead

/-!
# The kernel's result array

If every block's choices are an answer's rows, then the result is that answer.
-/

@[expose] public section
noncomputable section
namespace Cert.Proof.Ker

open Cert.KernelIdeal Cert.KernelIdeal.Gen
open Idealize.ShloMosaic Idealize.ShloMosaic.TcCoe Idealize.ShloMosaic.StableHlo Idealize.SL.Sem

/-- The point's coordinate is the point. -/
theorem coord_val (t : Fin cfg0.N) : (grid0.coords t 0).val = t.val := by
  have hN : cfg0.N = 32 := N_0
  have h : t.val < 32 := hN ▸ t.isLt
  have e : (grid0.coords t 0).val = t.val / 1 % 32 := Pipeline.Grid.coords_val t 0 (by decide) rfl
  omega

/-- The states' block at a point. -/
theorem idx0 : ∀ t : Fin cfg0.N, win0_0.index t = ![t.val, 0] :=
  (by decide +kernel : ∀ t : Fin grid0.N, _)
/-- The table's block at a point. -/
theorem idx1 : ∀ t : Fin cfg0.N, win0_1.index t = ![0, 0] :=
  (by decide +kernel : ∀ t : Fin grid0.N, _)
/-- The result's block at a point. -/
theorem idx2 : ∀ t : Fin cfg0.N, win0_2.index t = ![t.val, 0] :=
  (by decide +kernel : ∀ t : Fin grid0.N, _)

/-- The row of the array that the row `r` of the point `t`'s block is. -/
def row (t : Fin cfg0.N) (r : Fin 8192) : Fin 262144 :=
  ⟨t.val * 8192 + r.val, by have hN : cfg0.N = 32 := N_0; have := t.isLt; omega⟩

/-- A place of a block of states, as a place of the array. -/
theorem emb0 (t : Fin cfg0.N) (r : Fin 8192) (h : Fin 2) :
    ((cfg0.win 0).blk t).view.emb (ix2 r h : S8192x2.Idx) = (ix2 (row t r) h : S262144x2.Idx) := by
  have e0 : win0_0.index t (0 : Fin 2) = t.val := congrFun (idx0 t) 0
  have e1 : win0_0.index t (1 : Fin 2) = 0 := congrFun (idx0 t) 1
  funext a; apply Fin.ext
  match a with
  | ⟨0, _⟩ => show win0_0.index t (0 : Fin 2) * 8192 + 1 * r.val = t.val * 8192 + r.val; omega
  | ⟨1, _⟩ => show win0_0.index t (1 : Fin 2) * 2 + 1 * h.val = h.val; omega

/-- A place of the block of the table is that place of the table. -/
theorem emb1 (t : Fin cfg0.N) (j : S128x128.Idx) : ((cfg0.win 1).blk t).view.emb j = j := by
  have e0 : win0_1.index t (0 : Fin 2) = 0 := congrFun (idx1 t) 0
  have e1 : win0_1.index t (1 : Fin 2) = 0 := congrFun (idx1 t) 1
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- A place of a block of the result, as a place of the array. -/
theorem emb2 (t : Fin cfg0.N) (r : Fin 8192) (h : Fin 2) :
    ((cfg0.win 2).blk t).view.emb (ix2 r h : S8192x2.Idx) = (ix2 (row t r) h : S262144x2.Idx) := by
  have e0 : win0_2.index t (0 : Fin 2) = t.val := congrFun (idx2 t) 0
  have e1 : win0_2.index t (1 : Fin 2) = 0 := congrFun (idx2 t) 1
  funext a; apply Fin.ext
  match a with
  | ⟨0, _⟩ => show win0_2.index t (0 : Fin 2) * 8192 + 1 * r.val = t.val * 8192 + r.val; omega
  | ⟨1, _⟩ => show win0_2.index t (1 : Fin 2) * 2 + 1 * h.val = h.val; omega

section Array
variable (m : (ℓ : Loc nD τ sig) → Buf (Elt Ideal) ℓ) (c : Dev nD)

/-- The point's block of states. -/
theorem iblk0_at (t : Fin cfg0.N) (r : Fin 8192) (h : Fin 2) :
    (iblk m c 0 t : IVec S8192x2 32) (ix2 r h) = (V m c main_v28 : IVec S262144x2 32) (ix2 (row t r) h) := by
  show V m c main_v28 (((cfg0.win 0).blk t).view.emb (ix2 r h : S8192x2.Idx)) = _
  rw [emb0]

/-- The point's block of the table is the table. -/
theorem iblk1_at (t : Fin cfg0.N) (j : S128x128.Idx) :
    (iblk m c 1 t : FVec Ideal S128x128 .f32) j = (V m c main_v27 : FVec Ideal S128x128 .f32) j := by
  show V m c main_v27 (((cfg0.win 1).blk t).view.emb j) = _
  rw [emb1]

/-- The answers, two to a row. -/
def pairs (A : S524288x1.Idx → BitVec 32) : S262144x2.Idx → BitVec 32 :=
  fun j => A (ix2 ⟨2 * (j 0 : Fin 262144).val + (j 1 : Fin 2).val, by have h0 : (j 0 : Fin 262144).val < 262144 := (j 0).isLt; have h1 : (j 1 : Fin 2).val < 2 := (j 1).isLt; omega⟩ 0)

variable {A : S524288x1.Idx → BitVec 32}
  (hA : ∀ (t : Fin cfg0.N) (r : Fin 8192) (h : Fin 2), stored (grid0.coords t) (iblk m c 0 t) (iblk m c 1 t) k0_pay4 (ix2 r h) = pairs A (ix2 (row t r) h))
include hA

/-- What a point writes back. -/
theorem flushed_eq (t : Fin cfg0.N) :
    (dats m 0 c).flushed 2 t = ((cfg0.win 2).blk t).view.read (Elt Ideal) (pairs A : IVec S262144x2 32) := by
  show (cfg0.win 2).cut (grid0.coords t) ((dats m 0 c).after 2 t) = _
  have key : ∀ S : Vec Ideal S8192x2 .i32, (∀ r h, S (ix2 r h) = pairs A (ix2 (row t r) h)) →
      (cfg0.win 2).cut (grid0.coords t) S = ((cfg0.win 2).blk t).view.read (Elt Ideal) (pairs A : IVec S262144x2 32) := by
    intro S hS
    funext j
    show S j = pairs A (((cfg0.win 2).blk t).view.emb j)
    obtain ⟨r, h, rfl⟩ : ∃ (r : Fin 8192) (h : Fin 2), j = (ix2 r h : S8192x2.Idx) := ⟨j 0, j 1, eq_ix2 (n0 := 8192) (n1 := 2) j⟩
    rw [hS]
    exact congrArg (pairs A) (emb2 t r h).symm
  rw [after0_2]
  have e : (outsAt0 m c t.val t.isLt).1 = stored (grid0.coords t) (iblk m c 0 t) (iblk m c 1 t) k0_pay4 := by rw [outsAt_eq]
  rw [e]
  exact key _ (hA t)

omit hA in
/-- Every place of the result array is in some point's block. -/
theorem covered (i : S262144x2.Idx) : ∃ t : Fin cfg0.N, (cfg0.win 2).flush t = true ∧ i ∈ ((cfg0.win 2).blk t).view.set := by
  have hN : cfg0.N = 32 := N_0
  obtain ⟨R, h, rfl⟩ : ∃ (R : Fin 262144) (h : Fin 2), i = ix2 R h := ⟨i 0, i 1, eq_ix2 i⟩
  have hR := R.isLt
  refine ⟨⟨R.val / 8192, by rw [hN]; omega⟩, flush0_2 _, ?_⟩
  have e := ((cfg0.win 2).blk (⟨R.val / 8192, by rw [hN]; omega⟩ : Fin cfg0.N)).view.emb_mem_set (ix2 ⟨R.val % 8192, by omega⟩ h : S8192x2.Idx)
  rw [emb2] at e
  have er : row ⟨R.val / 8192, by rw [hN]; omega⟩ ⟨R.val % 8192, by omega⟩ = R := Fin.ext (by show R.val / 8192 * 8192 + R.val % 8192 = R.val; omega)
  rwa [er] at e

/-- The array the launch leaves. -/
theorem final : (dats m 0 c).arrAt 2 cfg0.N = (pairs A : IVec S262144x2 32) :=
  (dats m 0 c).arrAt_eq_of_cover 2 (pairs A : IVec S262144x2 32) (fun t _ => flushed_eq m c hA t) (fun i => covered i)

/-- The result after the last host operation. -/
theorem tail_eq : Pipeline.afterTail₀ cfgs (dats m) 0 (V0 m) [hostOps1] c main_v30 = (A : IVec S524288x1 32) := by
  show after (hostOps1 ++ []) (Pipeline.withArrays (cfgs 0).spec c (V0 m c) fun w => (dats m 0 c).arrAt w (cfgs 0).N) (main_v30 : DevRef τ sig) = _
  rw [List.append_nil]
  have e : (Pipeline.withArrays (cfgs 0).spec c (V0 m c) fun w => (dats m 0 c).arrAt w (cfgs 0).N) (main_v29 : DevRef τ sig) = (pairs A : IVec S262144x2 32) :=
    (Pipeline.withArrays_arr _ (by decide) c (V0 m c) (fun w => (dats m 0 c).arrAt w (cfgs 0).N) 2).trans (final m c hA)
  after_results
  rw [e]
  funext j
  obtain ⟨n, k, rfl⟩ : ∃ (n : Fin 524288) (k : Fin 1), j = ix2 n k := ⟨j 0, j 1, eq_ix2 j⟩
  obtain rfl : k = 0 := Subsingleton.elim _ _
  refine (shapeCast_apply _ shapeCasts_S262144x2_S524288x1 (ix2 n 0) (ix2 (⟨n.val / 2, by omega⟩ : Fin 262144) (⟨n.val % 2, by omega⟩ : Fin 2)) ?_).trans ?_
  · rw [Shape.rowMajor_val_two, Shape.rowMajor_val_two]
    show n.val / 2 * 2 + n.val % 2 = n.val * 1 + 0
    omega
  · show A (ix2 ⟨2 * (n.val / 2) + n.val % 2, _⟩ 0) = A (ix2 n 0)
    exact congrArg (fun x => A (ix2 x 0)) (Fin.ext (by show 2 * (n.val / 2) + n.val % 2 = n.val; omega))

end Array

end Cert.Proof.Ker
end
-- ==== Proof.RefValue.lean ====
module

public import proofs.«01_k».proof.Proof.RefTail
public import Idealize.ShloMosaic.Lib.Quiescent

/-!
# What the reference answers

The reference's answer in the row `n` is the first place of the row whose score is greatest; its arguments keep their contents.
-/

@[expose] public section
noncomputable section
namespace Cert.Proof.Ref

open Cert.ReferenceIdeal Cert.ReferenceIdeal.Gen
open Idealize.ShloMosaic Idealize.ShloMosaic.TcCoe Idealize.ShloMosaic.StableHlo Idealize.SL.Sem

/-- The reference's answer in every row. -/
theorem answer (V : Valuation τ sig (Elt Ideal)) {z : IVec S524288x1 32} {m : FVec Ideal S64x64 .f32} {t : IVec S_ 32}
    (hz : V (main_arg0 : DevRef τ sig) = z) (hm : V (main_arg1 : DevRef τ sig) = m) (ht : V (main_arg2 : DevRef τ sig) = t)
    (n : Fin 524288) :
    ∃ k : Fin 64, Pick.Best (score (alpha lit0 t) m z n) k
      ∧ (after ops V (main_v62 : DevRef τ sig) : IVec S524288x1 32) (ix2 n 0) = BitVec.ofNat 32 k.val := by
  rw [after_ops]
  have a4 := alpha_read V ht
  have a0 := (after_unwritten (r := main_arg0) o_alpha_w o_alpha_writes (by decide) V).trans hz
  have a1 := (after_unwritten (r := main_arg1) o_alpha_w o_alpha_writes (by decide) V).trans hm
  have t16 := table_read _ a4 a1
  have t0 := (after_unwritten (r := main_arg0) o_table_w o_table_writes (by decide) _).trans a0
  have p19 := prob_read _ t0 t16
  have y19 := (after_unwritten (r := main_v19) o_keys_w o_keys_writes (by decide) _).trans p19
  have y28 := keys_k0 (after o_prob (after o_table (after o_alpha V)))
  have y30 := keys_k1 (after o_prob (after o_table (after o_alpha V)))
  have c19 := (after_unwritten (r := main_v19) o_count_w o_count_writes (by decide) _).trans y19
  have c28 := (after_unwritten (r := main_v28) o_count_w o_count_writes (by decide) _).trans y28
  have c30 := (after_unwritten (r := main_v30) o_count_w o_count_writes (by decide) _).trans y30
  obtain ⟨w, r19⟩ := rounds (start_keys _ c28 c30 c19) (start_holds _ c28 c30 (count_hi _) (count_lo _))
  have d46 := drawa_bits _ w
  have d19 := (after_unwritten (r := main_v19) o_drawa_w o_drawa_writes (by decide) _).trans r19
  have e56 := drawb_noise _ d46 (drawa_zero _)
  have e19 := (after_unwritten (r := main_v19) o_drawb_w o_drawb_writes (by decide) _).trans d19
  exact pick_read _ (score_read _ e19 e56) n

/-- A buffer none of the operations writes keeps its contents. -/
theorem kept (V : Valuation τ sig (Elt Ideal)) {b : Ref sig .tc} (h : ∀ l ∈ [o_alpha_w, o_table_w, o_prob_w, o_keys_w, o_count_w, o_start_w, o_round0_w, o_round1_w, o_round2_w, o_round3_w, o_round4_w, o_round5_w, o_round6_w, o_round7_w, o_round8_w, o_round9_w, o_round10a_w, o_round10b_w, o_round11_w, o_round12_w, o_round13_w, o_round14_w, o_round15_w, o_round16_w, o_round17_w, o_round18_w, o_round19_w, o_drawa_w, o_drawb_w, o_score_w, o_pick_w], b ∉ l) :
    after ops V (b : DevRef τ sig) = V (b : DevRef τ sig) := by
  rw [after_ops]
  simp only [List.forall_mem_cons, List.not_mem_nil, false_imp_iff, implies_true, and_true] at h
  obtain ⟨h0, h1, h2, h3, h4, h5, h6, h7, h8, h9, h10, h11, h12, h13, h14, h15, h16, h17, h18, h19, h20, h21, h22, h23, h24, h25, h26, h27, h28, h29, h30⟩ := h
  exact (after_unwritten o_pick_w o_pick_writes h30 _).trans ((after_unwritten o_score_w o_score_writes h29 _).trans ((after_unwritten o_drawb_w o_drawb_writes h28 _).trans ((after_unwritten o_drawa_w o_drawa_writes h27 _).trans ((after_unwritten o_round19_w o_round19_writes h26 _).trans ((after_unwritten o_round18_w o_round18_writes h25 _).trans ((after_unwritten o_round17_w o_round17_writes h24 _).trans ((after_unwritten o_round16_w o_round16_writes h23 _).trans ((after_unwritten o_round15_w o_round15_writes h22 _).trans ((after_unwritten o_round14_w o_round14_writes h21 _).trans ((after_unwritten o_round13_w o_round13_writes h20 _).trans ((after_unwritten o_round12_w o_round12_writes h19 _).trans ((after_unwritten o_round11_w o_round11_writes h18 _).trans ((after_unwritten o_round10b_w o_round10b_writes h17 _).trans ((after_unwritten o_round10a_w o_round10a_writes h16 _).trans ((after_unwritten o_round9_w o_round9_writes h15 _).trans ((after_unwritten o_round8_w o_round8_writes h14 _).trans ((after_unwritten o_round7_w o_round7_writes h13 _).trans ((after_unwritten o_round6_w o_round6_writes h12 _).trans ((after_unwritten o_round5_w o_round5_writes h11 _).trans ((after_unwritten o_round4_w o_round4_writes h10 _).trans ((after_unwritten o_round3_w o_round3_writes h9 _).trans ((after_unwritten o_round2_w o_round2_writes h8 _).trans ((after_unwritten o_round1_w o_round1_writes h7 _).trans ((after_unwritten o_round0_w o_round0_writes h6 _).trans ((after_unwritten o_start_w o_start_writes h5 _).trans ((after_unwritten o_count_w o_count_writes h4 _).trans ((after_unwritten o_keys_w o_keys_writes h3 _).trans ((after_unwritten o_prob_w o_prob_writes h2 _).trans ((after_unwritten o_table_w o_table_writes h1 _).trans ((after_unwritten o_alpha_w o_alpha_writes h0 _)))))))))))))))))))))))))))))))

/-- The states are unchanged. -/
theorem arg0_kept (V : Valuation τ sig (Elt Ideal)) : after ops V (main_arg0 : DevRef τ sig) = V (main_arg0 : DevRef τ sig) := kept V (by decide)
/-- The matrix is unchanged. -/
theorem arg1_kept (V : Valuation τ sig (Elt Ideal)) : after ops V (main_arg1 : DevRef τ sig) = V (main_arg1 : DevRef τ sig) := kept V (by decide)
/-- The step is unchanged. -/
theorem arg2_kept (V : Valuation τ sig (Elt Ideal)) : after ops V (main_arg2 : DevRef τ sig) = V (main_arg2 : DevRef τ sig) := kept V (by decide)

/-- The reference runs to the end, leaves its arguments and every semaphore as they were. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0 :=
  (θ_run defs _ _).mono (fun r h => ⟨fun c => ⟨(h c main_arg0).trans (arg0_kept _), (h c main_arg1).trans (arg1_kept _), (h c main_arg2).trans (arg2_kept _)⟩,
    sem_eq_zero_of_no_sems (by decide) r.2⟩) (run_all m ρ)

/-- What the reference's result array ends holding. -/
def result (m : (ℓ : Loc nD τ sig) → Buf (Elt Ideal) ℓ) (c : Dev nD) : IVec S524288x1 32 :=
  after ops (launchContents m c) (main_v62 : DevRef τ sig)

/-- Every row of the result is the row's first best place. -/
theorem result_best (m : (ℓ : Loc nD τ sig) → Buf (Elt Ideal) ℓ) (c : Dev nD) {z : IVec S524288x1 32} {q : FVec Ideal S64x64 .f32} {t : IVec S_ 32}
    (hz : m ((c.tc : Thread nD τ).loc main_arg0) = z) (hm : m ((c.tc : Thread nD τ).loc main_arg1) = q) (ht : m ((c.tc : Thread nD τ).loc main_arg2) = t)
    (n : Fin 524288) : ∃ k : Fin 64, Pick.Best (score (alpha lit0 t) q z n) k ∧ result m c (ix2 n 0) = BitVec.ofNat 32 k.val :=
  answer (launchContents m c) hz hm ht n

/-- The reference's run: its result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun r h c => ⟨h c main_v62, (h c main_arg0).trans (arg0_kept _), (h c main_arg1).trans (arg1_kept _), (h c main_arg2).trans (arg2_kept _)⟩)
    (run_all m ρ)

end Cert.Proof.Ref
end
-- ==== Proof.Admissible.lean ====
module

public import proofs.«01_k».proof.Proof.Gen.Pre_admissible
public import Idealize.ShloMosaic.PureOps.Ideal.Laws
public import Idealize.ShloMosaic.Lib.Pointwise
public import Idealize.ShloMosaic.Lib.ValueIdx
public import Idealize.ShloMosaic.Lib.ReduceAll

/-!
# What the precondition gives

Where the precondition holds, every state is a number below 64 and the matrix has one value in all its entries.
-/

@[expose] public section
noncomputable section
namespace Cert.Proof.Admissible

open Cert.Pre_admissible Cert.Pre_admissible.Gen
open Idealize.ShloMosaic

variable {z : IVec S524288x1 32} {m : FVec Ideal S64x64 .f32} {t : IVec S_ 32}

/-- The state's test. -/
def ranged (z : IVec S524288x1 32) : IVec S524288x1 1 :=
  andi (cmpi .sge z (broadcastInDim S524288x1 ![] bcast_S_S524288x1 (constantI S_ 32 0#32)))
    (cmpi .slt z (broadcastInDim S524288x1 ![] bcast_S_S524288x1 (constantI S_ 32 64#32)))

/-- The matrix's test. -/
def level (m : FVec Ideal S64x64 .f32) : IVec S64x64 1 :=
  cmpf (F := Ideal) .oeq m (broadcastInDim S64x64 ![0, 1] bcast_S1x1_S64x64_0_1 (extractStridedSlice S1x1 ![0, 0] m slices_S64x64_S1x1_0_0))

/-- The precondition is the conjunction of the two tests and a third. -/
theorem fn_eq (z : IVec S524288x1 32) (m : FVec Ideal S64x64 .f32) (t : IVec S_ 32) :
    ∃ w : IVec S_ 1, fn (F := Ideal) z m t =
      andi (andi (Host.reduce IntOp.andi (ranged z) (constantI S_ 1 1#1) reducesTo_S524288x1_S_d0_1 h_S_)
        (Host.reduce IntOp.andi (level m) (constantI S_ 1 1#1) reducesTo_S64x64_S_d0_1 h_S_)) w :=
  ⟨_, rfl⟩

/-- A scalar has one place. -/
instance : Subsingleton S_.Idx := ⟨fun a b => funext fun x => x.elim0⟩

/-- Where the precondition holds, both tests hold everywhere. -/
theorem both (h : fn (F := Ideal) z m t = fun _ => 1#1) : (∀ j, ranged z j = 1#1) ∧ ∀ j, level m j = 1#1 := by
  obtain ⟨w, e⟩ := fn_eq z m t
  have h1 := congrFun (e.symm.trans h) ix0
  obtain ⟨h2, -⟩ := IntOp.andi_eq_one.1 h1
  obtain ⟨h3, h4⟩ := IntOp.andi_eq_one.1 h2
  exact ⟨fun j => Host.reduce_andi_all _ _ _ _ _ h3 j, fun j => Host.reduce_andi_all _ _ _ _ _ h4 j⟩

/-- Every state is a number below 64. -/
theorem range (h : fn (F := Ideal) z m t = fun _ => 1#1) (n : Fin 524288) : ∃ s : Fin 64, z (ix2 n 0) = BitVec.ofNat 32 s.val := by
  obtain ⟨h0, h1⟩ := IntOp.andi_eq_one.1 ((both h).1 (ix2 n 0))
  have g0 : (0#32).toInt ≤ (z (ix2 n 0)).toInt := IntOp.cmpi_sge.1 h0
  have g1 : (z (ix2 n 0)).toInt < (64#32).toInt := IntOp.cmpi_slt.1 h1
  rw [show (0#32).toInt = 0 from by decide] at g0
  rw [show (64#32).toInt = 64 from by decide] at g1
  rw [BitVec.toInt_eq_toNat_cond] at g0 g1
  have hb := (z (ix2 n 0)).isLt
  refine ⟨⟨(z (ix2 n 0)).toNat, by split at g0 <;> omega⟩, ?_⟩
  exact (BitVec.ofNat_toNat 32 (z (ix2 n 0))).trans (BitVec.setWidth_eq _) |>.symm

/-- The matrix has one value in all its entries. -/
theorem uniform (h : fn (F := Ideal) z m t = fun _ => 1#1) (i k : Fin 64) : m (ix2 i k) = m (ix2 0 0) := by
  have e := (both h).2 (ix2 i k)
  unfold level at e
  simp only [pointwise] at e
  by_contra hn
  have e' : BitVec.ofBool (decide (m (ix2 i k) = m (ix2 0 0))) = 1#1 := e
  rw [decide_eq_false hn] at e'
  exact absurd e' (by decide)

end Cert.Proof.Admissible
end
-- ==== Proof.Match.lean ====
module

public import proofs.«01_k».proof.Proof.KerArray
public import proofs.«01_k».proof.Proof.RefValue
public import proofs.«01_k».proof.Proof.Admissible

/-!
# The kernel's choice is the reference's

Where the matrix has one value in all its entries and the states are in range, a lane of the kernel has the score the reference gives its row and place, so the two choose the same place.
-/

@[expose] public section
noncomputable section
namespace Cert.Proof.Match

open Cert.KernelIdeal Cert.KernelIdeal.Gen
open Idealize.ShloMosaic Idealize.ShloMosaic.TcCoe Idealize.ShloMosaic.StableHlo Idealize.SL.Sem

/-- A lane's counter is the counter of its row and place. -/
theorem ctr_eq (g r h k n : Nat) (hg : g < 32) (hr : r < 8192) (hh : h < 2) (hk : k < 64) (hn : n = (g * 8192 + r) * 2 + h) :
    Ker.laneCtr g r (64 * h + k) = Ref.ctr n k := by
  unfold Ker.laneCtr Ref.ctr
  apply BitVec.eq_of_toNat_eq
  simp only [BitVec.toNat_add, BitVec.toNat_mul, BitVec.toNat_ofNat]
  omega

variable {a : EReal} {m : S64x64.Idx → EReal} {z : IVec S524288x1 32} {n : Fin 524288} {s : Fin 64}

/-- The row's word picks its row of the table. -/
theorem prob_eq (hs : z (ix2 n 0) = BitVec.ofNat 32 s.val) (k : Fin 64) : Ref.prob a m z n k = Ref.entry a m s k := by
  unfold Ref.prob
  rw [Finset.sum_eq_single s]
  · rw [if_pos hs, one_mul]
  · intro i _ hi
    rw [if_neg, zero_mul]
    rw [hs]
    exact fun e => hi ((Ref.ofNat_inj s i).1 e).symm
  · exact fun h => absurd (Finset.mem_univ s) h

/-- A uniform matrix's table has one value on its diagonal and one off it. -/
theorem entry_eq (hm : ∀ i k, m (ix2 i k) = m (ix2 0 0)) (k : Fin 64) :
    Ref.entry a m s k = if s = k then Ref.entry a m 0 0 else Ref.entry a m 0 1 := by
  unfold Ref.entry
  rw [hm s k, hm 0 1]
  by_cases h : s = k
  · rw [if_pos h, if_pos h, if_pos rfl]
  · rw [if_neg h, if_neg h, if_neg (by decide)]

/-- The reference's score. -/
theorem score_eq (hm : ∀ i k, m (ix2 i k) = m (ix2 0 0)) (hs : z (ix2 n 0) = BitVec.ofNat 32 s.val) (k : Fin 64) :
    Ref.score a m z n k = Ref.gum (Hash.word (Ref.ctr n.val k.val))
      + (if s = k then Ideal.log (Ref.entry a m 0 0 + Ref.eps) else Ideal.log (Ref.entry a m 0 1 + Ref.eps)) := by
  unfold Ref.score
  rw [prob_eq hs, entry_eq hm]
  by_cases h : s = k
  · rw [if_pos h, if_pos h]
  · rw [if_neg h, if_neg h]

/-- On a left lane only the first state can match. -/
theorem left_iff (s0 s1 k : Fin 64) :
    (BitVec.ofNat 32 k.val = BitVec.ofNat 32 s0.val ∨ BitVec.ofNat 32 k.val = BitVec.ofNat 32 s1.val + 64#32) ↔ s0 = k := by
  refine ⟨fun h => ?_, fun h => Or.inl (by rw [h])⟩
  rcases h with h | h
  · exact ((Ref.ofNat_inj k s0).1 h).symm
  · exfalso
    have e := congrArg BitVec.toNat h
    simp only [BitVec.toNat_add, BitVec.toNat_ofNat] at e
    omega

/-- On a right lane only the second state can match. -/
theorem right_iff (s0 s1 k : Fin 64) :
    (BitVec.ofNat 32 (64 + k.val) = BitVec.ofNat 32 s0.val ∨ BitVec.ofNat 32 (64 + k.val) = BitVec.ofNat 32 s1.val + 64#32) ↔ s1 = k := by
  refine ⟨fun h => ?_, fun h => Or.inr ?_⟩
  · rcases h with h | h
    · exfalso
      have e := congrArg BitVec.toNat h
      simp only [BitVec.toNat_ofNat] at e
      omega
    · apply Fin.ext
      have e := congrArg BitVec.toNat h
      simp only [BitVec.toNat_add, BitVec.toNat_ofNat] at e
      omega
  · subst h
    apply BitVec.eq_of_toNat_eq
    simp only [BitVec.toNat_add, BitVec.toNat_ofNat]
    omega

section Kernel
variable (mem : (ℓ : Loc nD τ sig) → Buf (Elt Ideal) ℓ) (c : Dev nD)

/-- The kernel's states. -/
abbrev zOf : IVec S524288x1 32 := mem ((c : Thread nD τ).loc main_arg0)
/-- The kernel's matrix. -/
abbrev mOf : FVec Ideal S64x64 .f32 := mem ((c : Thread nD τ).loc main_arg1)
/-- The kernel's step. -/
abbrev tOf : IVec S_ 32 := mem ((c : Thread nD τ).loc main_arg2)
/-- The schedule's value at the kernel's step. -/
abbrev aOf : EReal := Ref.alpha Cert.ReferenceIdeal.lit0 (tOf mem c)

variable (hm : ∀ i k, mOf mem c (ix2 i k) = mOf mem c (ix2 0 0)) (hz : ∀ n, ∃ s : Fin 64, zOf mem c (ix2 n 0) = BitVec.ofNat 32 s.val)
include hm hz

/-- The row of the arguments that the half `h` of the row `r` of the point `t`'s block is. -/
def place (t : Fin cfg0.N) (r : Fin 8192) (h : Fin 2) : Fin 524288 :=
  ⟨2 * (Ker.row t r).val + h.val, by have := (Ker.row t r).isLt; omega⟩

/-- A state in a point's block is its row's state. -/
theorem state_at (t : Fin cfg0.N) (r : Fin 8192) (h : Fin 2) :
    (iblk mem c 0 t : IVec S8192x2 32) (ix2 r h) = zOf mem c (ix2 (place t r h) 0) := by
  rw [Ker.iblk0_at]
  exact Ker.pairs_at mem c (place t r h) (Ker.row t r) h rfl

/-- The table's first entry. -/
theorem hi_at (t : Fin cfg0.N) : (iblk mem c 1 t : FVec Ideal S128x128 .f32) (ix2 0 0) = Ideal.log (Ref.entry (aOf mem c) (mOf mem c) 0 0 + Ref.eps) := by
  rw [Ker.iblk1_at]
  exact Ker.table_at mem c 0 0

/-- The table's second entry. -/
theorem lo_at (t : Fin cfg0.N) : (iblk mem c 1 t : FVec Ideal S128x128 .f32) (ix2 0 1) = Ideal.log (Ref.entry (aOf mem c) (mOf mem c) 0 1 + Ref.eps) := by
  rw [Ker.iblk1_at]
  exact Ker.table_at mem c 0 1

/-- A left lane's score is the reference's. -/
theorem left_score (t : Fin cfg0.N) (r : Fin 8192) (k : Fin 64) :
    Ker.laneScore (grid0.coords t 0).val (iblk mem c 0 t) (iblk mem c 1 t) r ⟨k.val, by omega⟩ = Ref.score (aOf mem c) (mOf mem c) (zOf mem c) (place t r 0) k := by
  obtain ⟨s0, h0⟩ := hz (place t r 0)
  obtain ⟨s1, h1⟩ := hz (place t r 1)
  rw [score_eq hm h0]
  unfold Ker.laneScore
  rw [state_at mem c hm hz, state_at mem c hm hz, h0, h1, hi_at mem c hm hz, lo_at mem c hm hz, Ker.coord_val]
  have hN : cfg0.N = 32 := N_0
  have ht := t.isLt
  have e := ctr_eq t.val r.val 0 k.val (place t r 0).val (by omega) r.isLt (by omega) k.isLt (by show 2 * (t.val * 8192 + r.val) + 0 = _; omega)
  rw [Nat.mul_zero, Nat.zero_add] at e
  rw [e]
  exact congrArg _ (if_congr (left_iff s0 s1 k) rfl rfl)

/-- A right lane's score is the reference's. -/
theorem right_score (t : Fin cfg0.N) (r : Fin 8192) (k : Fin 64) :
    Ker.laneScore (grid0.coords t 0).val (iblk mem c 0 t) (iblk mem c 1 t) r ⟨64 + k.val, by omega⟩ = Ref.score (aOf mem c) (mOf mem c) (zOf mem c) (place t r 1) k := by
  obtain ⟨s0, h0⟩ := hz (place t r 0)
  obtain ⟨s1, h1⟩ := hz (place t r 1)
  rw [score_eq hm h1]
  unfold Ker.laneScore
  rw [state_at mem c hm hz, state_at mem c hm hz, h0, h1, hi_at mem c hm hz, lo_at mem c hm hz, Ker.coord_val]
  have hN : cfg0.N = 32 := N_0
  have ht := t.isLt
  have e := ctr_eq t.val r.val 1 k.val (place t r 1).val (by omega) r.isLt (by omega) k.isLt (by show 2 * (t.val * 8192 + r.val) + 1 = _; omega)
  rw [Nat.mul_one] at e
  rw [e]
  exact congrArg _ (if_congr (right_iff s0 s1 k) rfl rfl)

/-- A block's choice in a half of a row is the row's first best place. -/
theorem stored_eq (t : Fin cfg0.N) (r : Fin 8192) (h : Fin 2) (k : Fin 64)
    (hb : Pick.Best (Ref.score (aOf mem c) (mOf mem c) (zOf mem c) (place t r h)) k) :
    Ker.stored (grid0.coords t) (iblk mem c 0 t) (iblk mem c 1 t) k0_pay4 (ix2 r h) = BitVec.ofNat 32 k.val := by
  have h2 : h = 0 ∨ h = 1 := by omega
  rcases h2 with rfl | rfl
  · exact Ker.stored_left (grid0.coords t) (iblk mem c 0 t) (iblk mem c 1 t) r k
      ((congrArg (fun f => Pick.Best f k) (funext fun k => left_score mem c hm hz t r k)).mpr hb)
  · exact Ker.stored_right (grid0.coords t) (iblk mem c 0 t) (iblk mem c 1 t) r k
      ((congrArg (fun f => Pick.Best f k) (funext fun k => right_score mem c hm hz t r k)).mpr hb)

/-- The kernel's result is any array holding every row's first best place. -/
theorem kernel_eq (A : IVec S524288x1 32)
    (hA : ∀ n : Fin 524288, ∃ k : Fin 64, Pick.Best (Ref.score (aOf mem c) (mOf mem c) (zOf mem c) n) k ∧ A (ix2 n 0) = BitVec.ofNat 32 k.val) :
    Pipeline.afterTail₀ cfgs (dats mem) 0 (V0 mem) [hostOps1] c main_v30 = A := by
  refine Ker.tail_eq mem c (A := A) fun t r h => ?_
  obtain ⟨k, hb, hk⟩ := hA (place t r h)
  rw [stored_eq mem c hm hz t r h k hb]
  exact hk.symm

end Kernel

end Cert.Proof.Match
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_admissible
public import proofs.«01_k».proof.Proof.Match

/-!
# The certificate

The claims, assembled from the runs of the two programs and the equality of their results.
-/

@[expose] public section

noncomputable section

namespace Cert.Proof

open Idealize.ShloMosaic Idealize.ShloMosaic.TcCoe Idealize.SL.Sem

/-- The idealized kernel's run: its result is any array holding every row's first best place, its arguments are unchanged. -/
theorem kernel_run (m : (ℓ : Loc Cert.KernelIdeal.nD Cert.KernelIdeal.τ Cert.KernelIdeal.sig) → Buf (Elt Ideal) ℓ) (g : Dev Cert.KernelIdeal.nD → PrngReg)
    (hpre : Cert.Pre_KernelIdeal m) (A : Dev Cert.KernelIdeal.nD → IVec Cert.KernelIdeal.S524288x1 32)
    (hA : ∀ c (n : Fin 524288), ∃ k : Fin 64, Pick.Best (Ref.score (Match.aOf m c) (Match.mOf m c) (Match.zOf m c) n) k ∧ A c (ix2 n 0) = BitVec.ofNat 32 k.val) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_v30) = A c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun r h c => by
    obtain ⟨h1, h2⟩ := h
    obtain ⟨h1, -⟩ := h1
    obtain ⟨k0, k1, k2⟩ := h1 c
    refine ⟨k2, ?_, k0, k1, k2⟩
    refine ((h2 c).2 Cert.KernelIdeal.main_v30 (Pipeline.mem_restRefs_of Cert.KernelIdeal.main_v30 (by decide) (by decide))).trans ?_
    exact Match.kernel_eq m c (fun i k => Admissible.uniform (hpre c) i k) (fun n => Admissible.range (hpre c) n) (A c) (hA c))
    (θ_run_and (Cert.KernelIdeal.Gen.frame m g) (Cert.KernelIdeal.Gen.run_main m g))

/-- The idealized kernel and the idealized reference leave the same results. -/
theorem algebraic : Cert.algebraic_KernelIdeal_ReferenceIdeal := by
  intro m g m' g' hpre hargs
  refine ⟨fun c => m ((c.tc : Thread Cert.KernelIdeal.nD Cert.KernelIdeal.τ).loc Cert.KernelIdeal.main_arg2),
    fun c => Ref.result m' c, kernel_run m g hpre (fun c => Ref.result m' c) fun c n => Ref.result_best m' c (hargs c).1 (hargs c).2.1 (hargs c).2.2 n, ?_⟩
  exact (θ_run _ _ _).mono (fun r h c => ⟨(h c).2.2.2.trans (hargs c).2.2, (h c).1, (h c).2.1, (h c).2.2.1, (h c).2.2.2⟩) (Ref.run m' g')

/-- Every claim. -/
theorem claim : Cert.Claim :=
  ⟨Cert.Kernel.Gen.facts, Cert.KernelIdeal.Gen.facts, Cert.ReferenceIdeal.Gen.facts, Cert.Pre_admissible.Gen.facts,
    fun m ρ _ => Cert.Kernel.Gen.frame m ρ, fun m ρ _ => Cert.Kernel.Gen.frame m ρ, fun m ρ _ => Cert.KernelIdeal.Gen.frame m ρ,
    fun m ρ _ => Ref.frame m ρ, fun m ρ _ => Ref.frame m ρ, trivial, algebraic⟩

end Cert.Proof

end
